-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![2048, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S12 : Shape := ⟨1, ![12]⟩
abbrev S_ : Shape := ⟨0, ![]⟩
abbrev S1 : Shape := ⟨1, ![1]⟩
abbrev S64x512 : Shape := ⟨2, ![64, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .local _ .vmem, ⟨0, _⟩ => ⟨S512x2048, .f32⟩
  | .local _ .vmem, ⟨1, _⟩ => ⟨S2048x512, .f32⟩
  | _, _ => ⟨S512x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v13 : BitVec 32 := Scalar.muli v2 c16_i32_5
  let v14 : BitVec 32 := Scalar.addi c0_i32 v13
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v15 : BitVec 32 := Scalar.muli v5 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.addi v8 c1_i32_2
  let c4_i32_3 : BitVec 32 := 4#32
  let v12 : BitVec 32 := Scalar.remsi v11 c4_i32_3
  let c1_i32_7 : BitVec 32 := 1#32
  let v17 : BitVec 32 := Scalar.muli v12 c1_i32_7
  let v18 : BitVec 32 := Scalar.addi v16 v17
  v18.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v21 : BitVec 32 := Scalar.muli v2 c16_i32_11
  let v22 : BitVec 32 := Scalar.addi c0_i32_12 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v19 : BitVec 32 := Scalar.addi v8 c2_i32_8
  let c4_i32_9 : BitVec 32 := 4#32
  let v20 : BitVec 32 := Scalar.remsi v19 c4_i32_9
  let c1_i32_14 : BitVec 32 := 1#32
  let v25 : BitVec 32 := Scalar.muli v20 c1_i32_14
  let v26 : BitVec 32 := Scalar.addi v24 v25
  v26.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v29 : BitVec 32 := Scalar.muli v2 c16_i32_17
  let v30 : BitVec 32 := Scalar.addi c0_i32_18 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v27 : BitVec 32 := Scalar.addi v8 c3_i32
  let c4_i32_15 : BitVec 32 := 4#32
  let v28 : BitVec 32 := Scalar.remsi v27 c4_i32_15
  let c1_i32_20 : BitVec 32 := 1#32
  let v33 : BitVec 32 := Scalar.muli v28 c1_i32_20
  let v34 : BitVec 32 := Scalar.addi v32 v33
  v34.toNat
def k0_dev4 (d0 : Dev nD) : Nat :=
  let c0_i32_24 : BitVec 32 := 0#32
  let c1_i32_21 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_21 v2
  let c16_i32_23 : BitVec 32 := 16#32
  let v36 : BitVec 32 := Scalar.muli v35 c16_i32_23
  let v37 : BitVec 32 := Scalar.addi c0_i32_24 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v38 : BitVec 32 := Scalar.muli v5 c4_i32_25
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v40 : BitVec 32 := Scalar.muli v8 c1_i32_26
  let v41 : BitVec 32 := Scalar.addi v39 v40
  v41.toNat
def k0_off1 (d0 : Dev nD) (c0_i32_32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_31 : BitVec 32 := 512#32
  let v46 : BitVec 32 := Scalar.muli v8 c512_i32_31
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v47 : BitVec 32 := Scalar.addi v46 v9
  let v48 : BitVec 32 := Scalar.addi v47 c0_i32_32
  let c0_i32_39 : BitVec 32 := 0#32
  ![v48.toNat, 0]
def k0_off2 (d0 : Dev nD) (c0_i32_30 : BitVec 32) (c1_i32_28 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v44 : BitVec 32 := Scalar.addi v9 c0_i32_30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v42 : BitVec 32 := Scalar.addi v8 c1_i32_28
  let c4_i32_29 : BitVec 32 := 4#32
  let v43 : BitVec 32 := Scalar.remsi v42 c4_i32_29
  let c512_i32 : BitVec 32 := 512#32
  let v45 : BitVec 32 := Scalar.muli v43 c512_i32
  ![v44.toNat, v45.toNat]
def k0_dev5 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v49 : BitVec 32 := Scalar.muli v2 c16_i32_35
  let v50 : BitVec 32 := Scalar.addi c0_i32_36 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v51 : BitVec 32 := Scalar.muli v5 c4_i32_37
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v42 : BitVec 32 := Scalar.addi v8 c1_i32_28
  let c4_i32_29 : BitVec 32 := 4#32
  let v43 : BitVec 32 := Scalar.remsi v42 c4_i32_29
  let c1_i32_38 : BitVec 32 := 1#32
  let v53 : BitVec 32 := Scalar.muli v43 c1_i32_38
  let v54 : BitVec 32 := Scalar.addi v52 v53
  v54.toNat
def k0_dev6 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v68 : BitVec 32 := Scalar.muli v2 c16_i32_48
  let v69 : BitVec 32 := Scalar.addi c0_i32_49 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v70 : BitVec 32 := Scalar.muli v5 c4_i32_50
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v61 : BitVec 32 := Scalar.addi v8 c2_i32_40
  let c4_i32_41 : BitVec 32 := 4#32
  let v62 : BitVec 32 := Scalar.remsi v61 c4_i32_41
  let c1_i32_51 : BitVec 32 := 1#32
  let v72 : BitVec 32 := Scalar.muli v62 c1_i32_51
  let v73 : BitVec 32 := Scalar.addi v71 v72
  v73.toNat
def k0_dev7 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v87 : BitVec 32 := Scalar.muli v2 c16_i32_60
  let v88 : BitVec 32 := Scalar.addi c0_i32_61 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v89 : BitVec 32 := Scalar.muli v5 c4_i32_62
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_53 : BitVec 32 := 3#32
  let v80 : BitVec 32 := Scalar.addi v8 c3_i32_53
  let c4_i32_54 : BitVec 32 := 4#32
  let v81 : BitVec 32 := Scalar.remsi v80 c4_i32_54
  let c1_i32_63 : BitVec 32 := 1#32
  let v91 : BitVec 32 := Scalar.muli v81 c1_i32_63
  let v92 : BitVec 32 := Scalar.addi v90 v91
  v92.toNat
def k0_dev8 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v106 : BitVec 32 := Scalar.muli v2 c16_i32_72
  let v107 : BitVec 32 := Scalar.addi c0_i32_73 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v108 : BitVec 32 := Scalar.muli v5 c4_i32_74
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v99 : BitVec 32 := Scalar.addi v8 c1_i32_65
  let c4_i32_66 : BitVec 32 := 4#32
  let v100 : BitVec 32 := Scalar.remsi v99 c4_i32_66
  let c1_i32_75 : BitVec 32 := 1#32
  let v110 : BitVec 32 := Scalar.muli v100 c1_i32_75
  let v111 : BitVec 32 := Scalar.addi v109 v110
  v111.toNat
def k0_dev9 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v125 : BitVec 32 := Scalar.muli v2 c16_i32_84
  let v126 : BitVec 32 := Scalar.addi c0_i32_85 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v127 : BitVec 32 := Scalar.muli v5 c4_i32_86
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v118 : BitVec 32 := Scalar.addi v8 c2_i32_77
  let c4_i32_78 : BitVec 32 := 4#32
  let v119 : BitVec 32 := Scalar.remsi v118 c4_i32_78
  let c1_i32_87 : BitVec 32 := 1#32
  let v129 : BitVec 32 := Scalar.muli v119 c1_i32_87
  let v130 : BitVec 32 := Scalar.addi v128 v129
  v130.toNat
def k0_dev10 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v144 : BitVec 32 := Scalar.muli v2 c16_i32_96
  let v145 : BitVec 32 := Scalar.addi c0_i32_97 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v146 : BitVec 32 := Scalar.muli v5 c4_i32_98
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_89 : BitVec 32 := 3#32
  let v137 : BitVec 32 := Scalar.addi v8 c3_i32_89
  let c4_i32_90 : BitVec 32 := 4#32
  let v138 : BitVec 32 := Scalar.remsi v137 c4_i32_90
  let c1_i32_99 : BitVec 32 := 1#32
  let v148 : BitVec 32 := Scalar.muli v138 c1_i32_99
  let v149 : BitVec 32 := Scalar.addi v147 v148
  v149.toNat
def k0_dev11 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v163 : BitVec 32 := Scalar.muli v2 c16_i32_108
  let v164 : BitVec 32 := Scalar.addi c0_i32_109 v163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v165 : BitVec 32 := Scalar.muli v5 c4_i32_110
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v156 : BitVec 32 := Scalar.addi v8 c1_i32_101
  let c4_i32_102 : BitVec 32 := 4#32
  let v157 : BitVec 32 := Scalar.remsi v156 c4_i32_102
  let c1_i32_111 : BitVec 32 := 1#32
  let v167 : BitVec 32 := Scalar.muli v157 c1_i32_111
  let v168 : BitVec 32 := Scalar.addi v166 v167
  v168.toNat
def k0_dev12 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_120 : BitVec 32 := 16#32
  let v182 : BitVec 32 := Scalar.muli v2 c16_i32_120
  let v183 : BitVec 32 := Scalar.addi c0_i32_121 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_122 : BitVec 32 := 4#32
  let v184 : BitVec 32 := Scalar.muli v5 c4_i32_122
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_113 : BitVec 32 := 2#32
  let v175 : BitVec 32 := Scalar.addi v8 c2_i32_113
  let c4_i32_114 : BitVec 32 := 4#32
  let v176 : BitVec 32 := Scalar.remsi v175 c4_i32_114
  let c1_i32_123 : BitVec 32 := 1#32
  let v186 : BitVec 32 := Scalar.muli v176 c1_i32_123
  let v187 : BitVec 32 := Scalar.addi v185 v186
  v187.toNat
def k0_dev13 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v201 : BitVec 32 := Scalar.muli v2 c16_i32_132
  let v202 : BitVec 32 := Scalar.addi c0_i32_133 v201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v203 : BitVec 32 := Scalar.muli v5 c4_i32_134
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_125 : BitVec 32 := 3#32
  let v194 : BitVec 32 := Scalar.addi v8 c3_i32_125
  let c4_i32_126 : BitVec 32 := 4#32
  let v195 : BitVec 32 := Scalar.remsi v194 c4_i32_126
  let c1_i32_135 : BitVec 32 := 1#32
  let v205 : BitVec 32 := Scalar.muli v195 c1_i32_135
  let v206 : BitVec 32 := Scalar.addi v204 v205
  v206.toNat
def k0_dev14 (d0 : Dev nD) : Nat :=
  let c0_i32_145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_144 : BitVec 32 := 16#32
  let v220 : BitVec 32 := Scalar.muli v2 c16_i32_144
  let v221 : BitVec 32 := Scalar.addi c0_i32_145 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_146 : BitVec 32 := 4#32
  let v222 : BitVec 32 := Scalar.muli v5 c4_i32_146
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v213 : BitVec 32 := Scalar.addi v8 c1_i32_137
  let c4_i32_138 : BitVec 32 := 4#32
  let v214 : BitVec 32 := Scalar.remsi v213 c4_i32_138
  let c1_i32_147 : BitVec 32 := 1#32
  let v224 : BitVec 32 := Scalar.muli v214 c1_i32_147
  let v225 : BitVec 32 := Scalar.addi v223 v224
  v225.toNat
def k0_dev15 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v239 : BitVec 32 := Scalar.muli v2 c16_i32_156
  let v240 : BitVec 32 := Scalar.addi c0_i32_157 v239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v241 : BitVec 32 := Scalar.muli v5 c4_i32_158
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_149 : BitVec 32 := 2#32
  let v232 : BitVec 32 := Scalar.addi v8 c2_i32_149
  let c4_i32_150 : BitVec 32 := 4#32
  let v233 : BitVec 32 := Scalar.remsi v232 c4_i32_150
  let c1_i32_159 : BitVec 32 := 1#32
  let v243 : BitVec 32 := Scalar.muli v233 c1_i32_159
  let v244 : BitVec 32 := Scalar.addi v242 v243
  v244.toNat
def k0_dev16 (d0 : Dev nD) : Nat :=
  let c0_i32_169 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_168 : BitVec 32 := 16#32
  let v258 : BitVec 32 := Scalar.muli v2 c16_i32_168
  let v259 : BitVec 32 := Scalar.addi c0_i32_169 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170 : BitVec 32 := 4#32
  let v260 : BitVec 32 := Scalar.muli v5 c4_i32_170
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_161 : BitVec 32 := 3#32
  let v251 : BitVec 32 := Scalar.addi v8 c3_i32_161
  let c4_i32_162 : BitVec 32 := 4#32
  let v252 : BitVec 32 := Scalar.remsi v251 c4_i32_162
  let c1_i32_171 : BitVec 32 := 1#32
  let v262 : BitVec 32 := Scalar.muli v252 c1_i32_171
  let v263 : BitVec 32 := Scalar.addi v261 v262
  v263.toNat
def k0_off3 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_173 : BitVec 32 := 512#32
  let v270 : BitVec 32 := Scalar.muli v8 c512_i32_173
  let v271 : Index := Scalar.indexCast v270
  ![0, v271.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_174 : BitVec 32 := 512#32
  let v274 : BitVec 32 := Scalar.muli v8 c512_i32_174
  let v275 : Index := Scalar.indexCast v274
  let c0_175 : Index := 0#32
  ![v275.toNat, 0]
def k0_off5 (d0 : Dev nD) (c1_i32_176 : BitVec 32) (c0_i32_189 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v277 : BitVec 32 := Scalar.subi v8 c1_i32_176
  let c4_i32_177 : BitVec 32 := 4#32
  let v278 : BitVec 32 := Scalar.addi v277 c4_i32_177
  let c4_i32_178 : BitVec 32 := 4#32
  let v279 : BitVec 32 := Scalar.remsi v278 c4_i32_178
  let c512_i32_188 : BitVec 32 := 512#32
  let v293 : BitVec 32 := Scalar.muli v279 c512_i32_188
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v294 : BitVec 32 := Scalar.addi v293 v9
  let v295 : BitVec 32 := Scalar.addi v294 c0_i32_189
  let c0_i32_197 : BitVec 32 := 0#32
  ![v295.toNat, 0]
def k0_dev17 (d0 : Dev nD) : Nat :=
  let c0_i32_194 : BitVec 32 := 0#32
  let c1_i32_190 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v296 : BitVec 32 := Scalar.subi c1_i32_190 v2
  let c16_i32_193 : BitVec 32 := 16#32
  let v297 : BitVec 32 := Scalar.muli v296 c16_i32_193
  let v298 : BitVec 32 := Scalar.addi c0_i32_194 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v299 : BitVec 32 := Scalar.muli v5 c4_i32_195
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v301 : BitVec 32 := Scalar.muli v8 c1_i32_196
  let v302 : BitVec 32 := Scalar.addi v300 v301
  v302.toNat
def k0_dev18 (d0 : Dev nD) : Nat :=
  let c0_i32_217 : BitVec 32 := 0#32
  let c1_i32_213 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v328 : BitVec 32 := Scalar.subi c1_i32_213 v2
  let c16_i32_216 : BitVec 32 := 16#32
  let v329 : BitVec 32 := Scalar.muli v328 c16_i32_216
  let v330 : BitVec 32 := Scalar.addi c0_i32_217 v329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_218 : BitVec 32 := 4#32
  let v331 : BitVec 32 := Scalar.muli v5 c4_i32_218
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v333 : BitVec 32 := Scalar.muli v8 c1_i32_219
  let v334 : BitVec 32 := Scalar.addi v332 v333
  v334.toNat
def k0_dev19 (d0 : Dev nD) : Nat :=
  let c0_i32_240 : BitVec 32 := 0#32
  let c1_i32_236 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v360 : BitVec 32 := Scalar.subi c1_i32_236 v2
  let c16_i32_239 : BitVec 32 := 16#32
  let v361 : BitVec 32 := Scalar.muli v360 c16_i32_239
  let v362 : BitVec 32 := Scalar.addi c0_i32_240 v361
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_241 : BitVec 32 := 4#32
  let v363 : BitVec 32 := Scalar.muli v5 c4_i32_241
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v365 : BitVec 32 := Scalar.muli v8 c1_i32_242
  let v366 : BitVec 32 := Scalar.addi v364 v365
  v366.toNat
def k0_dev20 (d0 : Dev nD) : Nat :=
  let c0_i32_263 : BitVec 32 := 0#32
  let c1_i32_259 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v392 : BitVec 32 := Scalar.subi c1_i32_259 v2
  let c16_i32_262 : BitVec 32 := 16#32
  let v393 : BitVec 32 := Scalar.muli v392 c16_i32_262
  let v394 : BitVec 32 := Scalar.addi c0_i32_263 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_264 : BitVec 32 := 4#32
  let v395 : BitVec 32 := Scalar.muli v5 c4_i32_264
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v397 : BitVec 32 := Scalar.muli v8 c1_i32_265
  let v398 : BitVec 32 := Scalar.addi v396 v397
  v398.toNat
def k0_dev21 (d0 : Dev nD) : Nat :=
  let c0_i32_286 : BitVec 32 := 0#32
  let c1_i32_282 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v424 : BitVec 32 := Scalar.subi c1_i32_282 v2
  let c16_i32_285 : BitVec 32 := 16#32
  let v425 : BitVec 32 := Scalar.muli v424 c16_i32_285
  let v426 : BitVec 32 := Scalar.addi c0_i32_286 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v427 : BitVec 32 := Scalar.muli v5 c4_i32_287
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v429 : BitVec 32 := Scalar.muli v8 c1_i32_288
  let v430 : BitVec 32 := Scalar.addi v428 v429
  v430.toNat
def k0_dev22 (d0 : Dev nD) : Nat :=
  let c0_i32_309 : BitVec 32 := 0#32
  let c1_i32_305 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v456 : BitVec 32 := Scalar.subi c1_i32_305 v2
  let c16_i32_308 : BitVec 32 := 16#32
  let v457 : BitVec 32 := Scalar.muli v456 c16_i32_308
  let v458 : BitVec 32 := Scalar.addi c0_i32_309 v457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_310 : BitVec 32 := 4#32
  let v459 : BitVec 32 := Scalar.muli v5 c4_i32_310
  let v460 : BitVec 32 := Scalar.addi v458 v459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v461 : BitVec 32 := Scalar.muli v8 c1_i32_311
  let v462 : BitVec 32 := Scalar.addi v460 v461
  v462.toNat
def k0_dev23 (d0 : Dev nD) : Nat :=
  let c0_i32_332 : BitVec 32 := 0#32
  let c1_i32_328 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v488 : BitVec 32 := Scalar.subi c1_i32_328 v2
  let c16_i32_331 : BitVec 32 := 16#32
  let v489 : BitVec 32 := Scalar.muli v488 c16_i32_331
  let v490 : BitVec 32 := Scalar.addi c0_i32_332 v489
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v491 : BitVec 32 := Scalar.muli v5 c4_i32_333
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v493 : BitVec 32 := Scalar.muli v8 c1_i32_334
  let v494 : BitVec 32 := Scalar.addi v492 v493
  v494.toNat
def k0_dev24 (d0 : Dev nD) : Nat :=
  let c0_i32_355 : BitVec 32 := 0#32
  let c1_i32_351 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v520 : BitVec 32 := Scalar.subi c1_i32_351 v2
  let c16_i32_354 : BitVec 32 := 16#32
  let v521 : BitVec 32 := Scalar.muli v520 c16_i32_354
  let v522 : BitVec 32 := Scalar.addi c0_i32_355 v521
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_356 : BitVec 32 := 4#32
  let v523 : BitVec 32 := Scalar.muli v5 c4_i32_356
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v525 : BitVec 32 := Scalar.muli v8 c1_i32_357
  let v526 : BitVec 32 := Scalar.addi v524 v525
  v526.toNat
def k0_dev25 (d0 : Dev nD) : Nat :=
  let c0_i32_378 : BitVec 32 := 0#32
  let c1_i32_374 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v552 : BitVec 32 := Scalar.subi c1_i32_374 v2
  let c16_i32_377 : BitVec 32 := 16#32
  let v553 : BitVec 32 := Scalar.muli v552 c16_i32_377
  let v554 : BitVec 32 := Scalar.addi c0_i32_378 v553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_379 : BitVec 32 := 4#32
  let v555 : BitVec 32 := Scalar.muli v5 c4_i32_379
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v557 : BitVec 32 := Scalar.muli v8 c1_i32_380
  let v558 : BitVec 32 := Scalar.addi v556 v557
  v558.toNat
def k0_dev26 (d0 : Dev nD) : Nat :=
  let c0_i32_401 : BitVec 32 := 0#32
  let c1_i32_397 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v584 : BitVec 32 := Scalar.subi c1_i32_397 v2
  let c16_i32_400 : BitVec 32 := 16#32
  let v585 : BitVec 32 := Scalar.muli v584 c16_i32_400
  let v586 : BitVec 32 := Scalar.addi c0_i32_401 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_402 : BitVec 32 := 4#32
  let v587 : BitVec 32 := Scalar.muli v5 c4_i32_402
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v589 : BitVec 32 := Scalar.muli v8 c1_i32_403
  let v590 : BitVec 32 := Scalar.addi v588 v589
  v590.toNat
def k0_dev27 (d0 : Dev nD) : Nat :=
  let c0_i32_424 : BitVec 32 := 0#32
  let c1_i32_420 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v616 : BitVec 32 := Scalar.subi c1_i32_420 v2
  let c16_i32_423 : BitVec 32 := 16#32
  let v617 : BitVec 32 := Scalar.muli v616 c16_i32_423
  let v618 : BitVec 32 := Scalar.addi c0_i32_424 v617
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_425 : BitVec 32 := 4#32
  let v619 : BitVec 32 := Scalar.muli v5 c4_i32_425
  let v620 : BitVec 32 := Scalar.addi v618 v619
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v621 : BitVec 32 := Scalar.muli v8 c1_i32_426
  let v622 : BitVec 32 := Scalar.addi v620 v621
  v622.toNat
def k0_dev28 (d0 : Dev nD) : Nat :=
  let c0_i32_447 : BitVec 32 := 0#32
  let c1_i32_443 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v648 : BitVec 32 := Scalar.subi c1_i32_443 v2
  let c16_i32_446 : BitVec 32 := 16#32
  let v649 : BitVec 32 := Scalar.muli v648 c16_i32_446
  let v650 : BitVec 32 := Scalar.addi c0_i32_447 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_448 : BitVec 32 := 4#32
  let v651 : BitVec 32 := Scalar.muli v5 c4_i32_448
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v653 : BitVec 32 := Scalar.muli v8 c1_i32_449
  let v654 : BitVec 32 := Scalar.addi v652 v653
  v654.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
# The kernel's body as a chain of uniform steps

The printed body names every copy, semaphore and slice one by one. This module names them by an index instead — the
chunk of rows (four) and the distance along the mesh's third axis (three) — and states that the printed body is the
same program: five phases, each running over a list of such indices.
-/
module

public import proofs.«01_k».proof.Proof.Gen.KernelIdeal
public import proofs.«01_k».proof.Proof.Gen.KernelIdeal.Skeleton

@[expose] public section

noncomputable section

namespace Cert.A2A

open Cert.KernelIdeal Cert.KernelIdeal.Gen
open Idealize.ShloMosaic Idealize.ShloMosaic.TcCoe
open Idealize.SL.Sem

variable {F : FTy → Type} [FloatOps F]

/-- A copy's index: the chunk of rows, then the distance less one along the third axis. -/
abbrev I : Type := Fin 4 × Fin 3

/-- The indices in the order the program walks them: chunk by chunk, the three distances in turn. -/
def order : List I :=
  [(0, 0), (0, 1), (0, 2), (1, 0), (1, 1), (1, 2), (2, 0), (2, 1), (2, 2), (3, 0), (3, 1), (3, 2)]

/-- The semaphore slot of an index. -/
abbrev slot (i : I) : ℕ := i.2.val * 4 + i.1.val

theorem slot_lt (i : I) : slot i < 12 := by have := i.1.isLt; have := i.2.isLt; unfold slot; omega

theorem slot_inb (i : I) : ∀ a, (![slot i] : Fin 1 → ℕ) a + S1.size a ≤ S12.size a := by
  revert i; decide

/-- The semaphore of slot `i` of an array of twelve. -/
abbrev semAt (arr : DmaSems sig S12) (i : I) : DmaSem sig :=
  ((arr.slice (Rect.unit (s := S12) ![slot i] S1.size (slot_inb i))).squeeze S_ squeezes_S1_S_).sem

/-- The two staged buffers of a device: its block of `x` and its part of the result. -/
abbrev xM : Memref sig .tc .vmem S512x2048 .f32 := Memref.whole cc0_stg0_0
abbrev oM : Memref sig .tc .vmem S2048x512 .f32 := Memref.whole cc0_stg1_0

/-- The runtime's barrier semaphore. -/
abbrev barS : Sem sig := (SemArray.scalar (sig.barrier 0 rfl) : Sems sig S_).sem

/-- The rows of `x` the copy at index `i` reads on device `c`. -/
abbrev xV (c : Dev nD) (i : I) : Memref sig .tc .vmem S64x512 .f32 :=
  xM.slice (Rect.unit (s := S512x2048) (k0_off2 c (BitVec.ofNat 32 (64 * i.1.val)) (BitVec.ofNat 32 (1 + i.2.val))) S64x512.size (k0_off2_inb c i.1 i.2)) (fun _ => rfl)
/-- The rows of the result the copy of chunk `i.1` from device `c` writes, on whichever device it addresses. -/
abbrev dV (c : Dev nD) (i : I) : Memref sig .tc .vmem S64x512 .f32 :=
  oM.slice (Rect.unit (s := S2048x512) (k0_off1 c (BitVec.ofNat 32 (64 * i.1.val))) S64x512.size (k0_off1_inb c i.1)) (fun _ => rfl)
/-- The rows of the result device `c` forwards at index `i`, read here and written there. -/
abbrev fV (c : Dev nD) (i : I) : Memref sig .tc .vmem S64x512 .f32 :=
  oM.slice (Rect.unit (s := S2048x512) (k0_off5 c (BitVec.ofNat 32 (1 + i.2.val)) (BitVec.ofNat 32 (64 * i.1.val))) S64x512.size (k0_off5_inb c i.2 i.1)) (fun _ => rfl)

/-- The device the printed text addresses with its `k`-th signal. -/
def sigDev (c : Dev nD) : Fin 4 → Dev nD :=
  ![⟨k0_dev1 c, k0_dev1_lt c⟩, ⟨k0_dev2 c, k0_dev2_lt c⟩, ⟨k0_dev3 c, k0_dev3_lt c⟩, ⟨k0_dev4 c, k0_dev4_lt c⟩]
/-- The device the printed text addresses with its copy along the third axis at index `i`. -/
def zDev (c : Dev nD) (i : I) : Dev nD :=
  (![![⟨k0_dev5 c, k0_dev5_lt c⟩, ⟨k0_dev6 c, k0_dev6_lt c⟩, ⟨k0_dev7 c, k0_dev7_lt c⟩],
     ![⟨k0_dev8 c, k0_dev8_lt c⟩, ⟨k0_dev9 c, k0_dev9_lt c⟩, ⟨k0_dev10 c, k0_dev10_lt c⟩],
     ![⟨k0_dev11 c, k0_dev11_lt c⟩, ⟨k0_dev12 c, k0_dev12_lt c⟩, ⟨k0_dev13 c, k0_dev13_lt c⟩],
     ![⟨k0_dev14 c, k0_dev14_lt c⟩, ⟨k0_dev15 c, k0_dev15_lt c⟩, ⟨k0_dev16 c, k0_dev16_lt c⟩]] : Fin 4 → Fin 3 → Dev nD) i.1 i.2
/-- The device the printed text forwards to at index `i`. -/
def xDev (c : Dev nD) (i : I) : Dev nD :=
  (![![⟨k0_dev17 c, k0_dev17_lt c⟩, ⟨k0_dev18 c, k0_dev18_lt c⟩, ⟨k0_dev19 c, k0_dev19_lt c⟩],
     ![⟨k0_dev20 c, k0_dev20_lt c⟩, ⟨k0_dev21 c, k0_dev21_lt c⟩, ⟨k0_dev22 c, k0_dev22_lt c⟩],
     ![⟨k0_dev23 c, k0_dev23_lt c⟩, ⟨k0_dev24 c, k0_dev24_lt c⟩, ⟨k0_dev25 c, k0_dev25_lt c⟩],
     ![⟨k0_dev26 c, k0_dev26_lt c⟩, ⟨k0_dev27 c, k0_dev27_lt c⟩, ⟨k0_dev28 c, k0_dev28_lt c⟩]] : Fin 4 → Fin 3 → Dev nD) i.1 i.2

/-- An operation of the machine with no value to return. -/
abbrev Op (F : FTy → Type) : Type := TpuEff nD τ sig (Elt F) Λ₀ .tc PUnit
abbrev Code (F : FTy → Type) : Type 1 := Prog (TpuEff nD τ sig (Elt F) Λ₀ .tc) PUnit

/-- The signal of one unit to the barrier of device `p`. -/
abbrev opSig (p : Dev nD) : Op F := .semSignal (p, .tc) barS 1
/-- The wait for four units of the own barrier. -/
abbrev opBar : Op F := .semWait barS 4
/-- The copy along the third axis, to device `p`. -/
abbrev opZ (c p : Dev nD) (i : I) : Op F :=
  .enqueueDma (xV c i) (.remote (Dev.tc p) (dV c i) (.dma (semAt cc0_scratch0 i))) (.dma (semAt cc0_scratch1 i))
    (View.wordExact_bits rfl) (View.wordExact_bits rfl) ⟨⟨rfl, Or.inl rfl⟩, trivial⟩
/-- The forward, to device `p`. -/
abbrev opX (c p : Dev nD) (i : I) : Op F :=
  .enqueueDma (fV c i) (.remote (Dev.tc p) (fV c i) (.dma (semAt cc0_scratch2 i))) (.dma (semAt cc0_scratch3 i))
    (View.wordExact_bits rfl) (View.wordExact_bits rfl) ⟨⟨rfl, Or.inl rfl⟩, trivial⟩
/-- The four waits: for the copy received, the forward received, the forward sent, the copy sent. -/
abbrev opWzr (c : Dev nD) (i : I) : Op F :=
  .waitDma2 (semAt cc0_scratch1 i) (xV c i) (dV c i) (View.wordExact_bits rfl) (View.wordExact_bits rfl)
abbrev opWxr (c : Dev nD) (i : I) : Op F :=
  .waitDma2 (semAt cc0_scratch3 i) (fV c i) (fV c i) (View.wordExact_bits rfl) (View.wordExact_bits rfl)
abbrev opWxs (c : Dev nD) (i : I) : Op F :=
  .waitDma2 (semAt cc0_scratch2 i) (fV c i) (fV c i) (View.wordExact_bits rfl) (View.wordExact_bits rfl)
abbrev opWzs (c : Dev nD) (i : I) : Op F :=
  .waitDma2 (semAt cc0_scratch0 i) (dV c i) (xV c i) (View.wordExact_bits rfl) (View.wordExact_bits rfl)

/-- The rectangles of the own block: columns of `x`, rows of the result. -/
abbrev xOwn (c : Dev nD) : Rect S512x2048 := Rect.unit (s := S512x2048) (k0_off3 c) S512x512.size (k0_off3_inb c)
abbrev oOwn (c : Dev nD) : Rect S2048x512 := Rect.unit (s := S2048x512) (k0_off4 c) S512x512.size (k0_off4_inb c)

/-- Run `f` at each index of a list, then `p`. -/
def each {J : Type} (f : J → Code F → Code F) : List J → Code F → Code F
  | [], p => p
  | j :: l, p => f j (each f l p)

/-- The signals. -/
def sigs (c : Dev nD) (p : Code F) : Code F := each (fun k p => .op (opSig (sigDev c k)) fun _ => p) [0, 1, 2, 3] p
/-- The copies along the third axis. -/
def sendsZ (c : Dev nD) (p : Code F) : Code F := each (fun i p => .op (opZ c (zDev c i) i) fun _ => p) order p
/-- The own block, read from `x` and stored into the result. -/
def ownBlock (c : Dev nD) (p : Code F) : Code F :=
  .op (.load xM (xOwn c).toLoadRect (View.loadsAt_vmem h_S512x512)) fun v =>
  .op (.load oM (oOwn c).toLoadRect (View.loadsAt_vmem h_S512x512)) fun _ =>
  .op (.store oM (oOwn c) (k0_pay1 v) Finset.univ (View.stores_vmem_bits_univ h_S512x512 rfl) (.inl rfl)) fun _ => p
/-- Each copy awaited, then forwarded. -/
def forwards (c : Dev nD) (p : Code F) : Code F :=
  each (fun i p => .op (opWzr c i) fun _ => .op (opX c (xDev c i) i) fun _ => p) order p
/-- The last waits. -/
def drains (c : Dev nD) (p : Code F) : Code F :=
  each (fun i p => .op (opWxr c i) fun _ => .op (opWxs c i) fun _ => .op (opWzs c i) fun _ => p) order p

/-- The body as a chain. -/
def body : Code F :=
  .op .deviceId fun c => sigs c (.op opBar fun _ => sendsZ c (ownBlock c (forwards c (drains c (.ret ⟨⟩)))))

set_option maxRecDepth 100000 in
/-- The printed body, on the operands it is called with, is the chain. -/
theorem body_eq : cc0_body (F := F) xM (Memref.isWhole_whole _) oM (Memref.isWhole_whole _) cc0_scratch0 cc0_scratch1 cc0_scratch2 cc0_scratch3
    = body := rfl

end Cert.A2A

end
-- ==== Proof.Mesh.lean ====
/-
# The devices and the rows

Which device a copy addresses, which rows of the result it writes there, and that those rows — the own block, the twelve
pieces received along the third axis, the twelve received from the partner — make up the whole result, each row once.
-/
module

public import proofs.«01_k».proof.Proof.Program
public import Idealize.ShloMosaic.Lib.Pipeline.ValueKit.Geometry

@[expose] public section

noncomputable section

namespace Cert.A2A

open Cert.KernelIdeal Cert.KernelIdeal.Gen
open Idealize.ShloMosaic Idealize.ShloMosaic.TcCoe

/-- Along an axis of four, going back by one, two or three is leaving, -/
theorem back_ne : ∀ (z : Fin 4) (d : Fin 3), (z.val + 3 - d.val) % 4 ≠ z.val := by decide
/-- and every other place is such a step back. -/
theorem back_lt : ∀ z q : Fin 4, q ≠ z → (z.val + 3 - q.val) % 4 < 3 := by decide
theorem back_back : ∀ z q : Fin 4, (z.val + 3 - (z.val + 3 - q.val) % 4) % 4 = q.val := by decide

/-! ## Peers -/

theorem dev_lt (c : Dev nD) : c.val < 32 := c.isLt

set_option backward.proofsInPublic true in
/-- The device `d + 1` further along the third axis, around. -/
def zp (c : Dev nD) (d : Fin 3) : Dev nD :=
  ⟨16 * (c.val / 16) + 4 * ((c.val / 4) % 4) + (c.val % 4 + d.val + 1) % 4, by
    have h : c.val < 32 := c.isLt
    show _ < 32
    omega⟩
set_option backward.proofsInPublic true in
/-- The partner: the device across the first axis. -/
def xp (c : Dev nD) : Dev nD :=
  ⟨(4 * ((c.val / 4) % 4) + c.val % 4 + 16) - 16 * (c.val / 16), by
    have h : c.val < 32 := c.isLt
    show _ < 32
    omega⟩

theorem zp_val (c : Dev nD) (d : Fin 3) : (zp c d).val = 16 * (c.val / 16) + 4 * ((c.val / 4) % 4) + (c.val % 4 + d.val + 1) % 4 := rfl
theorem xp_val (c : Dev nD) : (xp c).val = (4 * ((c.val / 4) % 4) + c.val % 4 + 16) - 16 * (c.val / 16) := rfl

/-- The coordinates of the peers. -/
theorem zp_x (c : Dev nD) (d : Fin 3) : (zp c d).val / 16 = c.val / 16 := by revert c d; decide +kernel
theorem zp_y (c : Dev nD) (d : Fin 3) : (zp c d).val / 4 % 4 = c.val / 4 % 4 := by revert c d; decide +kernel
theorem zp_z (c : Dev nD) (d : Fin 3) : (zp c d).val % 4 = (c.val % 4 + d.val + 1) % 4 := by revert c d; decide +kernel
theorem zp_z_ne (c : Dev nD) (d : Fin 3) : c.val % 4 ≠ (zp c d).val % 4 := by revert c d; decide +kernel
theorem xp_x (c : Dev nD) : (xp c).val / 16 = 1 - c.val / 16 := by revert c; decide +kernel
theorem xp_y (c : Dev nD) : (xp c).val / 4 % 4 = c.val / 4 % 4 := by revert c; decide +kernel
theorem xp_z (c : Dev nD) : (xp c).val % 4 = c.val % 4 := by revert c; decide +kernel
theorem dev_x (c : Dev nD) : c.val / 16 < 2 := by revert c; decide +kernel
theorem dev_eq (c : Dev nD) : c.val = 16 * (c.val / 16) + 4 * (c.val / 4 % 4) + c.val % 4 := by revert c; decide +kernel

/-- Going `d + 1` and then the rest of the way around is staying. -/
theorem zp_zp (c : Dev nD) (d : Fin 3) : zp (zp c d) d.rev = c := by revert c d; decide +kernel
theorem zp_zp' (c : Dev nD) (d : Fin 3) : zp (zp c d.rev) d = c := by revert c d; decide +kernel
theorem xp_xp (c : Dev nD) : xp (xp c) = c := by revert c; decide +kernel

/-- The four devices a device signals, and is signalled by: three along the third axis, then the partner. -/
def pr (c : Dev nD) (k : Fin 4) : Dev nD := if h : k.val < 3 then zp c ⟨k.val, h⟩ else xp c
/-- The place a device has among the four of the `k`-th of its own four. -/
def rv : Fin 4 → Fin 4 := ![2, 1, 0, 3]
theorem pr_pr (c : Dev nD) (k : Fin 4) : pr (pr c k) (rv k) = c := by revert c k; decide +kernel
theorem rv_rv (k : Fin 4) : rv (rv k) = k := by revert k; decide +kernel

/-- The printed devices are these. -/
theorem sigDev_eq (c : Dev nD) (k : Fin 4) : sigDev c k = pr c k := by
  fin_cases k
  · exact Fin.ext (k0_dev1_eq c)
  · exact Fin.ext (k0_dev2_eq c)
  · exact Fin.ext (k0_dev3_eq c)
  · exact Fin.ext (k0_dev4_eq c)
theorem zDev_eq (c : Dev nD) (i : I) : zDev c i = zp c i.2 := by
  obtain ⟨ch, d⟩ := i
  apply Fin.ext
  fin_cases ch <;> fin_cases d
  · exact k0_dev5_eq c
  · exact k0_dev6_eq c
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
  · exact k0_dev16_eq c
theorem xDev_eq (c : Dev nD) (i : I) : xDev c i = xp c := by
  obtain ⟨ch, d⟩ := i
  apply Fin.ext
  fin_cases ch <;> fin_cases d
  · exact k0_dev17_eq c
  · exact k0_dev18_eq c
  · exact k0_dev19_eq c
  · exact k0_dev20_eq c
  · exact k0_dev21_eq c
  · exact k0_dev22_eq c
  · exact k0_dev23_eq c
  · exact k0_dev24_eq c
  · exact k0_dev25_eq c
  · exact k0_dev26_eq c
  · exact k0_dev27_eq c
  · exact k0_dev28_eq c

/-! ## Rows of the result -/

/-- The elements of the result in the `n` rows from row `lo`. -/
def rows (lo n : ℕ) : Finset S2048x512.Idx := Finset.univ.filter fun j => lo ≤ (j 0).val ∧ (j 0).val < lo + n

theorem mem_rows {lo n : ℕ} {j : S2048x512.Idx} : j ∈ rows lo n ↔ lo ≤ (j 0).val ∧ (j 0).val < lo + n := by
  unfold rows; rw [Finset.mem_filter]; exact and_iff_right (Finset.mem_univ _)

theorem rows_disjoint {lo n lo' n' : ℕ} (h : lo + n ≤ lo' ∨ lo' + n' ≤ lo) : Disjoint (rows lo n) (rows lo' n') := by
  rw [Finset.disjoint_left]
  intro j hj hj'
  rw [mem_rows] at hj hj'
  omega

/-- The first row of the piece device `c` receives along the third axis at index `i`. -/
def zlo (c : Dev nD) (i : I) : ℕ := 512 * ((c.val % 4 + 3 - i.2.val) % 4) + 256 * (c.val / 16) + 64 * i.1.val

/-- A rectangle of whole rows of the result holds the elements of those rows. -/
theorem set_rows (lo n : ℕ) (off : Fin 2 → ℕ) (hoff : off = ![lo, 0]) (sz : Fin 2 → ℕ) (hsz : sz = ![n, 512])
    (inb : ∀ a, off a + sz a ≤ S2048x512.size a) :
    ((oM : Memref sig .tc .vmem S2048x512 .f32).view.slice (Rect.unit (s := S2048x512) off sz inb)).set = rows lo n := by
  subst hoff; subst hsz
  ext j
  refine (ValueKit.mem_set_slice_whole_iff cc0_stg1_0 _ j (Rect.mem_set_unit (s := S2048x512))).trans ?_
  rw [mem_rows]
  constructor
  · intro h
    exact h 0
  · intro h a
    match a with
    | 0 => exact h
    | 1 => exact ⟨Nat.zero_le _, by have := (j 1).isLt; show (j 1).val < 0 + 512; exact (Nat.zero_add 512).symm ▸ this⟩

theorem zlo_zp (c : Dev nD) (i : I) : zlo (zp c i.2) i = 512 * (c.val % 4) + 256 * (c.val / 16) + 64 * i.1.val := by
  unfold zlo
  rw [zp_val]
  have h := dev_lt c
  have h2 := i.2.isLt
  omega

/-- The rows a copy along the third axis writes at its destination. -/
theorem dV_set (c : Dev nD) (i : I) : (dV c i).view.set = rows (zlo (zp c i.2) i) 64 :=
  set_rows _ _ _ ((k0_off1_eq c i.1).trans (by rw [zlo_zp])) _ rfl _
/-- The rows a forward reads here and writes at the partner. -/
theorem fV_set (c : Dev nD) (i : I) : (fV c i).view.set = rows (zlo c i) 64 :=
  set_rows _ _ _ ((k0_off5_eq c i.2 i.1).trans (by
    unfold zlo
    have h2 := i.2.isLt
    rw [show c.val % 4 + 3 - i.2.val = (c.val % 4 + 3) - i.2.val from rfl])) _ rfl _
/-- The rows of the own block. -/
theorem oOwn_set (c : Dev nD) : ((oM : Memref sig .tc .vmem S2048x512 .f32).access (oOwn c)).set = rows (512 * (c.val % 4)) 512 :=
  set_rows _ _ _ (k0_off4_eq c) _ rfl _

/-- The pieces are found by the device's first coordinate: the twelve of the device itself, and the twelve of its partner. -/
def piece (c : Dev nD) : Bool × I → Finset S2048x512.Idx := fun p => rows (zlo (bif p.1 then c else xp c) p.2) 64

theorem zlo_bif (c : Dev nD) (b : Bool) (i : I) :
    zlo (bif b then c else xp c) i = 512 * ((c.val % 4 + 3 - i.2.val) % 4) + 256 * (bif b then c.val / 16 else 1 - c.val / 16) + 64 * i.1.val := by
  have h := dev_lt c
  cases b
  · simp only [cond_false, zlo, xp_val]
    have h2 := i.2.isLt
    omega
  · rfl

theorem piece_disjoint (c : Dev nD) (p q : Bool × I) (hpq : p ≠ q) : Disjoint (piece c p) (piece c q) := by
  obtain ⟨b, ch, d⟩ := p
  obtain ⟨b', ch', d'⟩ := q
  refine rows_disjoint ?_
  rw [zlo_bif, zlo_bif]
  have h := dev_lt c
  have hd := d.isLt
  have hd' := d'.isLt
  have hc := ch.isLt
  have hc' := ch'.isLt
  have hne : b ≠ b' ∨ ch.val ≠ ch'.val ∨ d.val ≠ d'.val := by
    by_contra hcon
    push Not at hcon
    exact hpq (by rw [hcon.1, Fin.ext hcon.2.1, Fin.ext hcon.2.2])
  cases b <;> cases b' <;> simp only [cond_true, cond_false, ne_eq, not_true_eq_false, false_or, reduceCtorEq, not_false_eq_true, true_or] at hne ⊢ <;> omega

/-- The pieces received. -/
def received (c : Dev nD) : Finset S2048x512.Idx := Finset.univ.biUnion (piece c)

theorem own_disjoint (c : Dev nD) : Disjoint (rows (512 * (c.val % 4)) 512) (received c) := by
  unfold received
  rw [Finset.disjoint_biUnion_right]
  rintro ⟨b, ch, d⟩ -
  refine rows_disjoint ?_
  rw [zlo_bif]
  have h := dev_lt c
  have hd : (c.val % 4 + 3 - d.val) % 4 ≠ c.val % 4 := back_ne ⟨c.val % 4, Nat.mod_lt _ (by decide)⟩ d
  have hc := ch.isLt
  generalize (c.val % 4 + 3 - d.val) % 4 = w at hd ⊢
  cases b <;> simp only [cond_true, cond_false] <;> omega

/-- The own block and the pieces received are the whole result. -/
theorem own_union (c : Dev nD) : rows (512 * (c.val % 4)) 512 ∪ received c = Finset.univ := by
  ext j
  refine iff_of_true ?_ (Finset.mem_univ _)
  have hj : (j 0).val < 2048 := (j 0).isLt
  have h := dev_lt c
  rw [Finset.mem_union, mem_rows]
  by_cases hown : (j 0).val / 512 = c.val % 4
  · left; omega
  · right
    unfold received
    rw [Finset.mem_biUnion]
    have hl : (c.val % 4 + 3 - (j 0).val / 512) % 4 < 3 :=
      back_lt ⟨c.val % 4, Nat.mod_lt _ (by decide)⟩ ⟨(j 0).val / 512, by omega⟩ (fun e => hown (congrArg Fin.val e))
    have hb : (c.val % 4 + 3 - (c.val % 4 + 3 - (j 0).val / 512) % 4) % 4 = (j 0).val / 512 :=
      back_back ⟨c.val % 4, Nat.mod_lt _ (by decide)⟩ ⟨(j 0).val / 512, by omega⟩
    refine ⟨(decide ((j 0).val % 512 / 256 = c.val / 16), ⟨(j 0).val % 256 / 64, by omega⟩, ⟨(c.val % 4 + 3 - (j 0).val / 512) % 4, hl⟩),
      Finset.mem_univ _, ?_⟩
    unfold piece
    rw [mem_rows, zlo_bif]
    dsimp only
    rw [hb]
    by_cases hx : (j 0).val % 512 / 256 = c.val / 16
    · simp only [hx, decide_true, cond_true]; omega
    · simp only [hx, decide_false, cond_false]; omega

/-! ## The pieces of `x` -/

/-- The pieces of `x` sent to different devices, or for different chunks, have no element in common. -/
theorem xV_disjoint (c : Dev nD) (i j : I) (h : i ≠ j) : Disjoint (xV c i).view.set (xV c j).view.set := by
  obtain ⟨ch, d⟩ := i
  obtain ⟨ch', d'⟩ := j
  rw [Finset.disjoint_left]
  intro e he he'
  have h1 := (ValueKit.mem_set_slice_whole_iff cc0_stg0_0 _ e (Rect.mem_set_unit (s := S512x2048))).mp he
  have h2 := (ValueKit.mem_set_slice_whole_iff cc0_stg0_0 _ e (Rect.mem_set_unit (s := S512x2048))).mp he'
  rw [k0_off2_eq] at h1 h2
  have a0 : 256 * (c.val / 16) + 64 * ch.val ≤ (e 0).val ∧ (e 0).val < 256 * (c.val / 16) + 64 * ch.val + 64 := h1 0
  have a1 : 512 * ((c.val % 4 + d.val + 1) % 4) ≤ (e 1).val ∧ (e 1).val < 512 * ((c.val % 4 + d.val + 1) % 4) + 512 := h1 1
  have b0 : 256 * (c.val / 16) + 64 * ch'.val ≤ (e 0).val ∧ (e 0).val < 256 * (c.val / 16) + 64 * ch'.val + 64 := h2 0
  have b1 : 512 * ((c.val % 4 + d'.val + 1) % 4) ≤ (e 1).val ∧ (e 1).val < 512 * ((c.val % 4 + d'.val + 1) % 4) + 512 := h2 1
  have hd := d.isLt
  have hd' := d'.isLt
  refine h (Prod.ext (Fin.ext ?_) (Fin.ext ?_))
  · show ch.val = ch'.val; omega
  · show d.val = d'.val; omega

/-- The elements of `x` no copy reads. -/
def xRest (c : Dev nD) : Finset S512x2048.Idx := Finset.univ \ Finset.univ.biUnion fun i : I => ((xV c i).view.set : Finset S512x2048.Idx)

/-- The own block's columns are among the elements no copy reads. -/
theorem xOwn_subset (c : Dev nD) : (((xM : Memref sig .tc .vmem S512x2048 .f32).access (xOwn c)).set : Finset S512x2048.Idx) ⊆ xRest c := by
  intro e he
  unfold xRest
  rw [Finset.mem_sdiff, Finset.mem_biUnion]
  refine ⟨Finset.mem_univ _, ?_⟩
  rintro ⟨⟨ch, d⟩, -, hi⟩
  have h1 := (ValueKit.mem_set_slice_whole_iff cc0_stg0_0 _ e (Rect.mem_set_unit (s := S512x2048))).mp he
  have h2 := (ValueKit.mem_set_slice_whole_iff cc0_stg0_0 _ e (Rect.mem_set_unit (s := S512x2048))).mp hi
  rw [k0_off2_eq] at h2
  rw [k0_off3_eq] at h1
  have a1 : 512 * (c.val % 4) ≤ (e 1).val ∧ (e 1).val < 512 * (c.val % 4) + 512 := h1 1
  have b1 : 512 * ((c.val % 4 + d.val + 1) % 4) ≤ (e 1).val ∧ (e 1).val < 512 * ((c.val % 4 + d.val + 1) % 4) + 512 := h2 1
  have hd := d.isLt
  omega

end Cert.A2A

end
-- ==== Proof.Contents.lean ====
/-
# What the result holds

Row `512 s + l` of a device's part of the result is row `l` of the block of `x` of a device whose third coordinate is `s`,
cut to the columns of the device's own third coordinate. This module says from which device each row comes
(`srcDev`), what the result then holds (`outC`), and that each of the three writes — a copy along the third axis, a
forward, the own block — leaves exactly those contents in the rows it writes.
-/
module

public import proofs.«01_k».proof.Proof.Mesh
public import Idealize.ShloMosaic.Lib.Pipeline.Value

@[expose] public section

noncomputable section

namespace Cert.A2A

open Cert.KernelIdeal Cert.KernelIdeal.Gen
open Idealize.ShloMosaic Idealize.ShloMosaic.TcCoe

variable {F : FTy → Type} [FloatOps F]

/-- The contents of a staged block of `x`, and of a staged part of the result. -/
abbrev XC (F : FTy → Type) : Type := (cc0_stg0_0 : Ref sig .tc).ty.Contents (Elt F)
abbrev OC (F : FTy → Type) : Type := (cc0_stg1_0 : Ref sig .tc).ty.Contents (Elt F)

set_option backward.proofsInPublic true in
/-- Where row `n` of device `c`'s part comes from: the device itself for its own block; for another block, the device of
    that block with the same second coordinate, its first coordinate telling the halves of the block apart. -/
def srcDev (c : Dev nD) (n : ℕ) : Dev nD :=
  if n / 512 % 4 = c.val % 4 then c
  else ⟨16 * (n % 512 / 256) + 4 * ((c.val / 4) % 4) + n / 512 % 4, by
    show _ < 32
    omega⟩

set_option backward.proofsInPublic true in
/-- An element of a block of `x` by row and column. -/
def ix (r k : ℕ) : S512x2048.Idx := fun a => match a with
  | ⟨0, _⟩ => ⟨r % 512, Nat.mod_lt _ (by decide)⟩
  | ⟨1, _⟩ => ⟨k % 2048, Nat.mod_lt _ (by decide)⟩

theorem ix_eq (r k : ℕ) (e : S512x2048.Idx) (h0 : (e 0).val = r) (h1 : (e 1).val = k) : ix r k = e := by
  have l0 : (e 0).val < 512 := (e 0).isLt
  have l1 : (e 1).val < 2048 := (e 1).isLt
  funext a
  match a with
  | ⟨0, _⟩ => exact Fin.ext (show r % 512 = (e 0).val by omega)
  | ⟨1, _⟩ => exact Fin.ext (show k % 2048 = (e 1).val by omega)

/-- What device `c`'s part of the result holds, from the blocks `X` of `x`. -/
def outC (X : Dev nD → XC F) (c : Dev nD) : OC F := fun j => X (srcDev c (j 0).val) (ix ((j 0).val % 512) (512 * (c.val % 4) + (j 1).val))

theorem outC_eq (X : Dev nD → XC F) (c s : Dev nD) (j : S2048x512.Idx) (e : S512x2048.Idx) (hs : srcDev c (j 0).val = s)
    (h0 : (e 0).val = (j 0).val % 512) (h1 : (e 1).val = 512 * (c.val % 4) + (j 1).val) : outC X c j = X s e := by
  unfold outC
  rw [hs, ix_eq _ _ e h0 h1]

theorem srcDev_own (c : Dev nD) (n : ℕ) (h : n / 512 % 4 = c.val % 4) : srcDev c n = c := if_pos h
theorem srcDev_other (c s : Dev nD) (n : ℕ) (h : n / 512 % 4 ≠ c.val % 4)
    (hs : s.val = 16 * (n % 512 / 256) + 4 * ((c.val / 4) % 4) + n / 512 % 4) : srcDev c n = s := by
  unfold srcDev
  rw [if_neg h]
  exact Fin.ext hs.symm

/-- A slice of whole-buffer rows: each coordinate is the offset's plus the index's. -/
theorem xV_emb (c : Dev nD) (i : I) (y : S64x512.Idx) :
    ((((xV c i).view.emb y : S512x2048.Idx) 0).val = 256 * (c.val / 16) + 64 * i.1.val + (y 0).val)
      ∧ ((((xV c i).view.emb y : S512x2048.Idx) 1).val = 512 * ((c.val % 4 + i.2.val + 1) % 4) + (y 1).val) := by
  have h := fun a : Fin 2 => ValueKit.view_emb_slice_whole_unit_val cc0_stg0_0 _ _ (k0_off2_inb c i.1 i.2) y a
  have e := k0_off2_eq c i.1 i.2
  exact ⟨(h 0).trans (congrArg (· + (y 0).val) (congrFun e 0)), (h 1).trans (congrArg (· + (y 1).val) (congrFun e 1))⟩
theorem dV_emb (c : Dev nD) (i : I) (y : S64x512.Idx) :
    ((((dV c i).view.emb y : S2048x512.Idx) 0).val = 512 * (c.val % 4) + 256 * (c.val / 16) + 64 * i.1.val + (y 0).val)
      ∧ ((((dV c i).view.emb y : S2048x512.Idx) 1).val = (y 1).val) := by
  have h := fun a : Fin 2 => ValueKit.view_emb_slice_whole_unit_val cc0_stg1_0 _ _ (k0_off1_inb c i.1) y a
  have e := k0_off1_eq c i.1
  exact ⟨(h 0).trans (congrArg (· + (y 0).val) (congrFun e 0)), (h 1).trans ((congrArg (· + (y 1).val) (congrFun e 1)).trans (Nat.zero_add _))⟩
theorem xOwn_emb (c : Dev nD) (y : S512x512.Idx) :
    (((((xM : Memref sig .tc .vmem S512x2048 .f32).access (xOwn c)).emb y : S512x2048.Idx) 0).val = (y 0).val)
      ∧ (((((xM : Memref sig .tc .vmem S512x2048 .f32).access (xOwn c)).emb y : S512x2048.Idx) 1).val = 512 * (c.val % 4) + (y 1).val) := by
  have h := fun a : Fin 2 => ValueKit.view_emb_slice_whole_unit_val cc0_stg0_0 _ _ (k0_off3_inb c) y a
  have e := k0_off3_eq c
  exact ⟨(h 0).trans ((congrArg (· + (y 0).val) (congrFun e 0)).trans (Nat.zero_add _)), (h 1).trans (congrArg (· + (y 1).val) (congrFun e 1))⟩
theorem oOwn_emb (c : Dev nD) (y : S512x512.Idx) :
    (((((oM : Memref sig .tc .vmem S2048x512 .f32).access (oOwn c)).emb y : S2048x512.Idx) 0).val = 512 * (c.val % 4) + (y 0).val)
      ∧ (((((oM : Memref sig .tc .vmem S2048x512 .f32).access (oOwn c)).emb y : S2048x512.Idx) 1).val = (y 1).val) := by
  have h := fun a : Fin 2 => ValueKit.view_emb_slice_whole_unit_val cc0_stg1_0 _ _ (k0_off4_inb c) y a
  have e := k0_off4_eq c
  exact ⟨(h 0).trans (congrArg (· + (y 0).val) (congrFun e 0)), (h 1).trans ((congrArg (· + (y 1).val) (congrFun e 1)).trans (Nat.zero_add _))⟩

/-- What a view's whole write leaves at an element of the view. -/
theorem write_at {s : Shape} (v : View sig .tc .vmem s .f32) (f : v.ty.Contents (Elt F)) (w : s.Idx → Elt F .f32) (g : v.ty.Contents (Elt F))
    (h : ∀ y, v.read (Elt F) g y = w y) (j : v.ty.Idx) (hj : j ∈ v.set) :
    v.write (Elt F) f w Finset.univ j = g j := by
  obtain ⟨y, -, rfl⟩ := Finset.mem_map.mp hj
  rw [View.write_emb_of_mem _ _ (Finset.mem_univ y), ← h y, View.read_apply, cast_cast, cast_eq]

/-- A copy along the third axis leaves the result's contents in the rows it writes. -/
theorem land_z (X : Dev nD → XC F) (c : Dev nD) (i : I) (f : OC F) (j : S2048x512.Idx) (hj : j ∈ ((dV c i).view.set : Finset S2048x512.Idx)) :
    (dV c i).view.write (Elt F) f ((xV c i).view.read (Elt F) (X c)) Finset.univ j = outC X (zp c i.2) j := by
  refine write_at (dV c i).view f _ (outC X (zp c i.2)) (fun y => ?_) j hj
  have hd := dV_emb c i y
  have hx := xV_emb c i y
  have hne := zp_z_ne c i.2
  have hx2 := dev_x c
  have h1 := i.1.isLt
  have hz4 : c.val % 4 < 4 := Nat.mod_lt _ (by decide)
  have hy : (y 0).val < 64 := (y 0).isLt
  show outC X (zp c i.2) ((dV c i).view.emb y) = X c ((xV c i).view.emb y)
  refine outC_eq X (zp c i.2) c ((dV c i).view.emb y) ((xV c i).view.emb y) (srcDev_other _ _ _ ?_ ?_) ?_ ?_
  · rw [hd.1]; generalize c.val % 4 = z at *; generalize c.val / 16 = x at *; omega
  · rw [hd.1, zp_y]
    refine (dev_eq c).trans ?_
    generalize c.val % 4 = z at *; generalize c.val / 16 = x at *; omega
  · rw [hx.1, hd.1]; generalize c.val % 4 = z at *; generalize c.val / 16 = x at *; omega
  · rw [hx.2, hd.2, zp_z]

/-- A forward leaves the result's contents in the rows it writes: they are the same on both devices. -/
theorem outC_xp (X : Dev nD → XC F) (c : Dev nD) (i : I) (j : S2048x512.Idx) (hj : j ∈ rows (zlo c i) 64) : outC X (xp c) j = outC X c j := by
  have h1 := i.1.isLt
  have h2 : (c.val % 4 + 3 - i.2.val) % 4 ≠ c.val % 4 := back_ne ⟨c.val % 4, Nat.mod_lt _ (by decide)⟩ i.2
  have h3 : (c.val % 4 + 3 - i.2.val) % 4 < 4 := Nat.mod_lt _ (by decide)
  have hx2 := dev_x c
  have hj := mem_rows.mp hj
  unfold zlo at hj
  generalize (c.val % 4 + 3 - i.2.val) % 4 = w at h2 h3 hj
  have hn : (j 0).val / 512 % 4 ≠ c.val % 4 := by generalize c.val % 4 = z at *; generalize c.val / 16 = x at *; omega
  have hs : srcDev (xp c) (j 0).val = srcDev c (j 0).val := by
    unfold srcDev
    rw [if_neg (by rw [xp_z]; exact hn), if_neg hn]
    exact Fin.ext (by show _ + _ + _ = _ + _ + _; rw [xp_y])
  unfold outC
  rw [hs, xp_z]

theorem land_x (X : Dev nD → XC F) (c : Dev nD) (i : I) (f : OC F) (j : S2048x512.Idx) (hj : j ∈ ((fV c i).view.set : Finset S2048x512.Idx)) :
    (fV c i).view.write (Elt F) f ((fV c i).view.read (Elt F) (outC X c)) Finset.univ j = outC X (xp c) j := by
  rw [outC_xp X c i j (by rw [← fV_set]; exact hj)]
  exact write_at (fV c i).view f _ (outC X c) (fun y => rfl) j hj

/-- The own block's store leaves the result's contents in the rows it writes. -/
theorem land_own (X : Dev nD → XC F) (c : Dev nD) (f : OC F) (j : S2048x512.Idx)
    (hj : j ∈ (((oM : Memref sig .tc .vmem S2048x512 .f32).access (oOwn c)).set : Finset S2048x512.Idx)) :
    ((oM : Memref sig .tc .vmem S2048x512 .f32).access (oOwn c)).write (Elt F) f
      (k0_pay1 ((xM : Memref sig .tc .vmem S512x2048 .f32).view.readAt (Elt F) (xOwn c).toLoadRect (X c))) Finset.univ j = outC X c j := by
  refine write_at ((oM : Memref sig .tc .vmem S2048x512 .f32).access (oOwn c)) f _ (outC X c) (fun y => ?_) j hj
  have hd := oOwn_emb c y
  have hx := xOwn_emb c y
  have h := dev_lt c
  have hy : (y 0).val < 512 := (y 0).isLt
  have hpay : ∀ v : Vec F S512x512 .f32, k0_pay1 v = v := fun v => by
    unfold k0_pay1
    exact shapeCast_self v _
  rw [hpay]
  show outC X c (((oM : Memref sig .tc .vmem S2048x512 .f32).access (oOwn c)).emb y) = X c (((xM : Memref sig .tc .vmem S512x2048 .f32).access (xOwn c)).emb y)
  refine outC_eq X c c _ _ (srcDev_own _ _ ?_) ?_ ?_
  · rw [hd.1]; omega
  · rw [hx.1, hd.1]; omega
  · rw [hx.2, hd.2]

end Cert.A2A

end
-- ==== Proof.Cells.lean ====
/-
# The semaphores and what is handed over at each

Every device has forty-nine semaphores: its barrier and four arrays of twelve (copies sent, copies received, forwards
sent, forwards received). Each is used for one round. The barrier's round has four duties of one unit, paid by the three
devices along the third axis and by the partner; each hands over the rows of its result that this device is to write.
A semaphore of an array has one duty, paid by a copy's landing or by a copy's source having been read, and hands over the
rows in question, holding what the result is to hold there.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A duty's name. -/
abbrev D : Type := Fin 4
abbrev UA : Type := URounds (GSem nD τ sig) D
abbrev UU : Type := UR sig nD τ × UA

local notation "𝕄" => MT nD τ sig Unit (Elt F) ℕ UU ℕ

abbrev EP : Emb (UR sig nD τ) (MT nD τ sig Unit (Elt F) ℕ UU ℕ) := embL
abbrev ER : Emb UA (MT nD τ sig Unit (Elt F) ℕ UU ℕ) := embR

/-! ## The semaphores -/

/-- The semaphores of a device: the barrier, or a family (copies sent, copies received, forwards sent, forwards received)
    with an index. -/
abbrev Kd : Type := Option (Fin 4 × I)

/-- The four arrays. -/
def arr : Fin 4 → DmaSems sig S12 := ![cc0_scratch0, cc0_scratch1, cc0_scratch2, cc0_scratch3]

/-- The launch's own semaphores, -/
def osem (k : Fin 4 × I) : SemLoc sig := .dma (semAt (arr k.1) k.2)
/-- and all of them. -/
def csem : Kd → SemLoc sig
  | none => .reg barS
  | some k => osem k

theorem osem_val (k : Fin 4 × I) : osem k = .dma ⟨2 + 12 * k.1.val + slot k.2, by
    have h1 := k.1.isLt; have h2 := slot_lt k.2; show _ < 50; omega⟩ := by
  revert k; decide +kernel

theorem osem_inj : Function.Injective osem := by
  intro a b h
  rw [osem_val, osem_val] at h
  injection h with h
  have h : 2 + 12 * a.1.val + slot a.2 = 2 + 12 * b.1.val + slot b.2 := congrArg Fin.val h
  obtain ⟨f, ch, d⟩ := a
  obtain ⟨f', ch', d'⟩ := b
  have h1 := ch.isLt
  have h2 := ch'.isLt
  have h3 := d.isLt
  have h4 := d'.isLt
  have h : 2 + 12 * f.val + (d.val * 4 + ch.val) = 2 + 12 * f'.val + (d'.val * 4 + ch'.val) := h
  refine Prod.ext (Fin.ext ?_) (Prod.ext (Fin.ext ?_) (Fin.ext ?_))
  · show f.val = f'.val; omega
  · show ch.val = ch'.val; omega
  · show d.val = d'.val; omega

theorem csem_inj : Function.Injective csem := by
  intro a b h
  match a, b, h with
  | none, none, _ => rfl
  | some a, some b, h => rw [osem_inj h]
  | none, some b, h => exact absurd h (fun h => by cases h)
  | some a, none, h => exact absurd h (fun h => by cases h)

/-- Device `ck.1`'s semaphore `ck.2`. -/
abbrev kcell (ck : Dev nD × Kd) : GSem nD τ sig := ((ck.1 : Thread nD τ), csem ck.2)
/-- By name: the barrier, and the four families. -/
abbrev barC (c : Dev nD) : GSem nD τ sig := kcell (c, none)
abbrev zsC (c : Dev nD) (i : I) : GSem nD τ sig := kcell (c, some (0, i))
abbrev zrC (c : Dev nD) (i : I) : GSem nD τ sig := kcell (c, some (1, i))
abbrev xsC (c : Dev nD) (i : I) : GSem nD τ sig := kcell (c, some (2, i))
abbrev xrC (c : Dev nD) (i : I) : GSem nD τ sig := kcell (c, some (3, i))

theorem kcell_inj : Function.Injective kcell := by
  rintro ⟨c, k⟩ ⟨c', k'⟩ h
  have h1 : c = c' := by have := congrArg (fun g : GSem nD τ sig => g.1.1) h; exact this
  subst h1
  have hk : k = k' := csem_inj (congrArg Prod.snd h)
  rw [hk]

/-- What a copy of 64 rows credits. -/
@[irreducible] def N : ℕ := (fV (0 : Dev nD) (0, 0)).view.dmaCredit
theorem N_pos : 0 < N := by unfold N; exact View.dmaCredit_pos _ (by decide)
theorem credit_xV (c : Dev nD) (i : I) : (xV c i).view.dmaCredit = N := by unfold N; rfl
theorem credit_dV (c : Dev nD) (i : I) : (dV c i).view.dmaCredit = N := by unfold N; rfl
theorem credit_fV (c : Dev nD) (i : I) : (fV c i).view.dmaCredit = N := by unfold N; rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as staged. -/
def xstg (c : Dev nD) : XC F := (win0_0.blk (0 : Fin 1)).view.read (Elt F) ((s₀ m ρ).mem ((c : Thread nD τ).loc main_arg0))

/-- What device `c`'s part of the result holds at the end. -/
def outR (c : Dev nD) : OC F := outC (xstg m ρ) c

/-- Elements of device `c`'s staged block of `x`. -/
def xAt (c : Dev nD) (S : Finset S512x2048.Idx) : sProp 𝕄 := ((c : Thread nD τ).loc cc0_stg0_0) ↦[S]{fullShare} xstg m ρ c
/-- Elements of device `c`'s staged result, holding `f`. -/
def oAt (c : Dev nD) (S : Finset S2048x512.Idx) (f : OC F) : sProp 𝕄 := ((c : Thread nD τ).loc cc0_stg1_0) ↦[S]{fullShare} f
/-- The same, holding anything. -/
def oAny (c : Dev nD) (S : Finset S2048x512.Idx) : sProp 𝕄 := iprop(∃ f, oAt c S f)

omit [FloatOps F] in
instance xAt_storable (c : Dev nD) (S) : BI.Storable (upEmb : UEmb _ 𝕄) (xAt (F := F) m ρ c S) := by unfold xAt; infer_instance
omit [FloatOps F] in
instance oAt_storable (c : Dev nD) (S) (f) : BI.Storable (upEmb : UEmb _ 𝕄) (oAt (F := F) c S f) := by unfold oAt; infer_instance
omit [FloatOps F] in
instance oAny_storable (c : Dev nD) (S) : BI.Storable (upEmb : UEmb _ 𝕄) (oAny (F := F) c S) := by unfold oAny; infer_instance

/-! ## The schedule -/

/-- What the barrier's `k`-th duty hands device `c`: the rows, on the device that pays it, that `c` is to write. -/
def barPay (c : Dev nD) (k : D) : sProp 𝕄 :=
  if h : k.val < 3 then bigSep Finset.univ fun ch : Fin 4 => oAny (zp c ⟨k.val, h⟩) (rows (zlo (zp c ⟨k.val, h⟩) (ch, ⟨k.val, h⟩)) 64)
  else bigSep Finset.univ fun i : I => oAny (xp c) (rows (zlo c i) 64)

/-- What the duty of a semaphore of an array hands over. -/
def famPay (c : Dev nD) (f : Fin 4) (i : I) : sProp 𝕄 :=
  (![xAt m ρ c (xV c i).view.set, oAt c (rows (zlo c i) 64) (outR m ρ c), oAt c (rows (zlo c i) 64) (outR m ρ c),
    oAt c (rows (zlo (xp c) i) 64) (outR m ρ c)] : Fin 4 → sProp 𝕄) f

def pay (c : Dev nD) (d : D) : Kd → sProp 𝕄
  | none => barPay c d
  | some k => famPay m ρ c k.1 k.2

/-- The duties of a semaphore's round, and their amount. -/
def dut : Kd → Finset D
  | none => Finset.univ
  | some _ => {0}
def amt : Kd → ℕ
  | none => 1
  | some _ => N

/-- One round: every semaphore its duties. -/
def Rd : Rounds.Schedule (GSem nD τ sig) D 𝕄 where
  duties g r := if r = 0 ∧ g.1.2 = .tc then Function.extend csem dut (fun _ => ∅) g.2 else ∅
  unitless _ := False
  amount g _ _ := Function.extend csem amt (fun _ => 1) g.2
  payload g _ d := Function.extend csem (pay m ρ g.1.1 d) (fun _ => iprop(emp)) g.2
  amount_pos g _ _ _ := by
    by_cases h : ∃ k, csem k = g.2
    · obtain ⟨k, hk⟩ := h
      rw [← hk, csem_inj.extend_apply]
      match k with
      | none => exact Nat.one_pos
      | some _ => exact N_pos
    · rw [Function.extend_apply' _ _ _ h]; exact Nat.one_pos

omit [FloatOps F] in
instance barPay_storable (c : Dev nD) (k : D) : BI.Storable (upEmb : UEmb _ 𝕄) (barPay (F := F) c k) := by
  unfold barPay; split <;> infer_instance
omit [FloatOps F] in
instance famPay_storable (c : Dev nD) (f : Fin 4) (i : I) : BI.Storable (upEmb : UEmb _ 𝕄) (famPay m ρ c f i) := by
  fin_cases f
  · exact xAt_storable m ρ c _
  · exact oAt_storable c _ _
  · exact oAt_storable c _ _
  · exact oAt_storable c _ _

omit [FloatOps F] in
instance Rd_payload_storable (g : GSem nD τ sig) (r : ℕ) (d : D) : BI.Storable (upEmb : UEmb _ 𝕄) ((Rd (F := F) m ρ).payload g r d) := by
  show BI.Storable upEmb (Function.extend csem (pay m ρ g.1.1 d) (fun _ => iprop(emp)) g.2)
  by_cases h : ∃ k, csem k = g.2
  · obtain ⟨k, hk⟩ := h
    rw [← hk, csem_inj.extend_apply]
    match k with
    | none => exact barPay_storable _ _
    | some k => exact famPay_storable m ρ _ _ _
  · rw [Function.extend_apply' _ _ _ h]; infer_instance

section Sched
variable (c : Dev nD) (k : Kd)

omit [FloatOps F] in
theorem duties_at : (Rd (F := F) m ρ).duties (kcell (c, k)) 0 = dut k := by
  show (if 0 = 0 ∧ (c : Thread nD τ).2 = .tc then Function.extend csem dut (fun _ => ∅) (csem k) else ∅) = _
  rw [if_pos ⟨rfl, rfl⟩, csem_inj.extend_apply]
omit [FloatOps F] in
theorem duties_later (g : GSem nD τ sig) : ∀ r, 1 ≤ r → (Rd (F := F) m ρ).duties g r = ∅ :=
  fun r hr => if_neg fun h => by omega
omit [FloatOps F] in
theorem amount_at (r : ℕ) (d : D) : (Rd (F := F) m ρ).amount (kcell (c, k)) r d = amt k := by
  show Function.extend csem amt (fun _ => 1) (csem k) = _
  rw [csem_inj.extend_apply]
omit [FloatOps F] in
theorem payload_at (r : ℕ) (d : D) : (Rd (F := F) m ρ).payload (kcell (c, k)) r d = pay m ρ c d k := by
  show Function.extend csem (pay m ρ c d) (fun _ => iprop(emp)) (csem k) = _
  rw [csem_inj.extend_apply]

omit [FloatOps F] in
theorem mem_bar (d : D) : d ∈ (Rd (F := F) m ρ).duties (barC c) 0 := by
  rw [duties_at]; exact Finset.mem_univ d
omit [FloatOps F] in
theorem mem_fam (k : Fin 4 × I) : (0 : D) ∈ (Rd (F := F) m ρ).duties (kcell (c, some k)) 0 := by
  rw [duties_at]; exact Finset.mem_singleton_self _

omit [FloatOps F] in
theorem expect_bar : (Rd (F := F) m ρ).expect (barC c) 0 = 4 := by
  unfold Schedule.expect Schedule.amountOf
  rw [duties_at, Finset.sum_congr rfl fun d _ => amount_at m ρ c none 0 d]
  show ∑ _d : Fin 4, 1 = 4
  rw [Finset.sum_const, Finset.card_univ, Fintype.card_fin, smul_eq_mul]
omit [FloatOps F] in
theorem expect_fam (k : Fin 4 × I) : (Rd (F := F) m ρ).expect (kcell (c, some k)) 0 = N := by
  unfold Schedule.expect Schedule.amountOf
  rw [duties_at]
  show ∑ d ∈ ({0} : Finset D), _ = N
  rw [Finset.sum_singleton, amount_at]; rfl

omit [FloatOps F] in
/-- The whole of the barrier's round. -/
theorem rest_bar : bigSep ((Rd (F := F) m ρ).duties (barC c) 0 \ ∅) (fun d => (Rd (F := F) m ρ).payload (barC c) 0 d)
    = bigSep Finset.univ fun d : D => barPay c d := by
  rw [Finset.sdiff_empty, duties_at]
  exact bigSep_congr fun d _ => payload_at m ρ c none 0 d
omit [FloatOps F] in
/-- The whole of another semaphore's round. -/
theorem rest_fam (k : Fin 4 × I) : bigSep ((Rd (F := F) m ρ).duties (kcell (c, some k)) 0 \ ∅) (fun d => (Rd (F := F) m ρ).payload (kcell (c, some k)) 0 d)
    = famPay m ρ c k.1 k.2 := by
  rw [Finset.sdiff_empty, duties_at]
  show bigSep ({0} : Finset D) _ = _
  rw [bigSep_singleton, payload_at]; rfl

end Sched

/-! ## What is owed -/

/-- A family of things over a list, summed. -/
abbrev owing {J : Type} (f : J → CellTallies nD τ sig Unit) (l : List J) : CellTallies nD τ sig Unit := (l.map f).sum

/-- A unit at the barrier of each of the four peers, -/
def tS (c : Dev nD) (k : Fin 4) : CellTallies nD τ sig Unit := tallyAt (barC (pr c k)) () 1
/-- a copy's credit at each of the twelve destinations along the third axis, -/
def tZ (c : Dev nD) (i : I) : CellTallies nD τ sig Unit := tallyAt (zrC (zp c i.2) i) () N
/-- a forward's credit at each of the partner's twelve. -/
def tX (c : Dev nD) (i : I) : CellTallies nD τ sig Unit := tallyAt (xrC (xp c) i) () N

/-- What a device owes at launch. -/
def O₀ (c : Dev nD) : CellTallies nD τ sig Unit := owing (tS c) [0, 1, 2, 3] + (owing (tZ c) order + owing (tX c) order)

def L (g : GSem nD τ sig) : Finset Unit := if g.1.2 = .tc then {()} else ∅
/-- The levels: barriers at 1, copies received at 2, forwards received at 3, everything else at 0. -/
def lvl : Kd → ℕ
  | none => 1
  | some (f, _) => ![0, 2, 0, 3] f
def lv (g : GSem nD τ sig) (_ : Unit) : ℕ := Function.extend csem lvl (fun _ => 0) g.2

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × Kd) (u : Unit) : lv (kcell ck) u = lvl ck.2 := csem_inj.extend_apply _ _ _

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem add_pos' {a b : CellTallies nD τ sig Unit} {g : GSem nD τ sig} {u : Unit} (h : 0 < (a + b) g u) : 0 < a g u ∨ 0 < b g u := by
  rw [Pi.add_apply, Finsupp.add_apply] at h
  omega

theorem owing_pos {J : Type} {f : J → CellTallies nD τ sig Unit} {g : GSem nD τ sig} {u : Unit} :
    ∀ {l : List J}, 0 < owing f l g u → ∃ j, 0 < f j g u
  | [], h => absurd h (Nat.lt_irrefl 0)
  | j :: l, h => (add_pos' (a := f j) (b := owing f l) (by rw [← List.sum_cons, ← List.map_cons]; exact h)).elim (fun h => ⟨j, h⟩) owing_pos

/-- Everything owed for copies is at a copy-received semaphore, -/
theorem tZ_pos {c : Dev nD} {l : List I} {g : GSem nD τ sig} {u : Unit} (h : 0 < owing (tZ c) l g u) : ∃ ck : Dev nD × Kd, g = kcell ck ∧ lvl ck.2 = 2 := by
  obtain ⟨i, h⟩ := owing_pos h
  exact ⟨_, tally_pos h, rfl⟩
/-- everything owed for forwards at a forward-received one. -/
theorem tX_pos {c : Dev nD} {l : List I} {g : GSem nD τ sig} {u : Unit} (h : 0 < owing (tX c) l g u) : ∃ ck : Dev nD × Kd, g = kcell ck ∧ lvl ck.2 = 3 := by
  obtain ⟨i, h⟩ := owing_pos h
  exact ⟨_, tally_pos h, rfl⟩
theorem O₀_pos {c : Dev nD} {g : GSem nD τ sig} {u : Unit} (h : 0 < O₀ c g u) : ∃ ck : Dev nD × Kd, g = kcell ck ∧ 0 < lvl ck.2 := by
  rcases add_pos' h with h | h
  · obtain ⟨i, h⟩ := owing_pos h
    exact ⟨_, tally_pos h, Nat.one_pos⟩
  · rcases add_pos' h with h | h
    · obtain ⟨ck, e, h⟩ := tZ_pos h; exact ⟨ck, e, by omega⟩
    · obtain ⟨ck, e, h⟩ := tX_pos h; exact ⟨ck, e, by omega⟩

omit [FloatOps F] in
/-- A wait at level `b` while everything owed is above `b`. -/
theorem mayWait (c : Dev nD) (sm : SemLoc sig) (b : ℕ) (hb : lv ((c : Thread nD τ), sm) () ≤ b) (O : CellTallies nD τ sig Unit)
    (hO : ∀ g u, 0 < O g u → ∃ ck : Dev nD × Kd, g = kcell ck ∧ b < lvl ck.2) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨ck, rfl, -⟩ := hO g u hg; exact Finset.mem_singleton_self _)
    (fun p hp => by rw [Finset.mem_singleton.mp hp]; exact hb)
    (fun g u hg => by obtain ⟨ck, rfl, h⟩ := hO g u hg; rw [lv_at]; exact h)

end Cert.A2A

end
-- ==== Proof.Steps.lean ====
/-
# One operation at a time

What each operation of the body needs and leaves, stated for a symbolic device and a symbolic index: the signal, the wait
for the barrier, the copy along the third axis, a wait for any semaphore of the four arrays, the forward, and the own
block's loads and store. And the rule for running one of them at every index of a list.
-/
module

public import proofs.«01_k».proof.Proof.Cells
public import Idealize.ShloMosaic.Lib.Rounds.Family

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

/-- Something at every index of a list. -/
def all {J : Type} (l : List J) (Φ : J → sProp 𝕄) : sProp 𝕄 :=
  match l with
  | [] => iprop(emp)
  | j :: l => iprop(Φ j ∗ all l Φ)

omit [FloatOps F] in
theorem all_eq {J : Type} [DecidableEq J] (Φ : J → sProp 𝕄) : ∀ l : List J, l.Nodup → bigSep l.toFinset Φ = all l Φ
  | [], _ => bigSep_empty
  | j :: l, h => by
    rw [List.toFinset_cons, bigSep_insert (fun hj => (List.nodup_cons.mp h).1 (List.mem_toFinset.mp hj)), all_eq Φ l (List.nodup_cons.mp h).2]
    rfl

omit [FloatOps F] in
/-- Over the twelve indices, in the program's order. -/
theorem all_order (Φ : I → sProp 𝕄) : all order Φ = bigSep Finset.univ Φ := by
  rw [← all_eq Φ order (by decide), show order.toFinset = Finset.univ from by decide]
omit [FloatOps F] in
/-- Over the four signals. -/
theorem all_sig (Φ : Fin 4 → sProp 𝕄) : all [0, 1, 2, 3] Φ = bigSep Finset.univ Φ := by
  rw [← all_eq Φ [0, 1, 2, 3] (by decide), show ([0, 1, 2, 3] : List (Fin 4)).toFinset = Finset.univ from by decide]

/-! ## What is at hand throughout -/

abbrev 𝒱₀ : Variants := Variants.none

/-- Running `p` on device `c`, to `Kt`. -/
abbrev run (c : Dev nD) (p : Code F) (Kt : PUnit → sProp 𝕄) : sProp 𝕄 :=
  wp frame (wpE (defs₀ (F := F)) 𝒱₀ (c : Thread nD τ) none) Set.univ p Kt

/-- Every semaphore's invariant, and that its round has begun. -/
def recs (K : Dev nD × Kd → ℕ) : sProp 𝕄 :=
  bigSep Finset.univ fun ck : Dev nD × Kd => iprop(cellInv ER (Rd m ρ) (K ck) (kcell ck) ∗ reached ER (kcell ck) 0)
/-- Those and the levels. -/
def env (K : Dev nD × Kd → ℕ) : sProp 𝕄 := iprop(recs m ρ K ∗ levAts L lv)

/-- What device `c` owes, whatever it has waited for. -/
def owes' (c : Dev nD) (O : CellTallies nD τ sig Unit) : sProp 𝕄 := iprop(∃ W, owes (c : Thread nD τ) O W)

variable (K : Dev nD × Kd → ℕ)

omit [FloatOps F] in
instance recs_persistent : BI.Persistent (recs (F := F) m ρ K) := by unfold recs; infer_instance
omit [FloatOps F] in
instance env_persistent : BI.Persistent (env (F := F) m ρ K) := by unfold env; infer_instance

omit [FloatOps F] in
theorem recs_at (ck : Dev nD × Kd) : recs (F := F) m ρ K ⊢ iprop(cellInv ER (Rd m ρ) (K ck) (kcell ck) ∗ reached ER (kcell ck) 0) :=
  bigSep_elim (Finset.mem_univ ck)
omit [FloatOps F] in
theorem env_inv (ck : Dev nD × Kd) : env m ρ K ⊢ cellInv ER (Rd (F := F) m ρ) (K ck) (kcell ck) := by
  unfold env
  iintro ⟨H, -⟩
  ihave H := (recs_at m ρ K ck) $$ H
  icases H with ⟨H, -⟩
  iexact H
omit [FloatOps F] in
theorem env_reached (ck : Dev nD × Kd) : env (F := F) m ρ K ⊢ reached ER (kcell ck) 0 := by
  unfold env
  iintro ⟨H, -⟩
  ihave H := (recs_at m ρ K ck) $$ H
  icases H with ⟨-, H⟩
  iexact H
omit [FloatOps F] in
/-- A wait at level `b` while everything owed is above `b`. -/
theorem env_mayWait (c : Dev nD) (sm : SemLoc sig) (b : ℕ) (hb : lv ((c : Thread nD τ), sm) () ≤ b) (O : CellTallies nD τ sig Unit)
    (hO : ∀ g u, 0 < O g u → ∃ ck : Dev nD × Kd, g = kcell ck ∧ b < lvl ck.2) : env (F := F) m ρ K ⊢ MayWait (c : Thread nD τ) sm () O := by
  unfold env
  iintro ⟨-, H⟩
  iapply (mayWait (F := F) c sm b hb O hO)
  iexact H

theorem run_ret (c : Dev nD) (Kt : PUnit → sProp 𝕄) : Kt ⟨⟩ ⊢ run c (.ret ⟨⟩) Kt := by
  unfold run; rw [wp_ret]; iintro H; imodintro; iexact H

/-- Running `f` at every index of a list: each takes the state `H` from one rest of the list to the next. -/
theorem each_run {J : Type} (f : J → Code F → Code F) (c : Dev nD) (Kt : PUnit → sProp 𝕄) (Pre Post : J → sProp 𝕄) (H : List J → sProp 𝕄)
    (step : ∀ j l p, iprop(Pre j ∗ H (j :: l)) ⊢ iprop(((Post j ∗ H l) -∗ run c p Kt) -∗ run c (f j p) Kt)) :
    ∀ l p, iprop(all l Pre ∗ H l) ⊢ iprop(((all l Post ∗ H []) -∗ run c p Kt) -∗ run c (each f l p) Kt)
  | [], p => by
    unfold all each
    iintro ⟨-, HH⟩ Hk
    iapply Hk
    isplitr; · iempintro
    iexact HH
  | j :: l, p => by
    unfold all each
    iintro ⟨⟨Hj, Hl⟩, HH⟩ Hk
    iapply (step j l (each f l p)) $$ [Hj HH]
    · isplitl [Hj] <;> iassumption
    iintro ⟨Hj, HH⟩
    iapply (each_run f c Kt Pre Post H step l p) $$ [Hl HH]
    · isplitl [Hl] <;> iassumption
    iintro ⟨Hl, HH⟩
    iapply Hk
    isplitl [Hj Hl]
    · isplitl [Hj] <;> iassumption
    iexact HH

/-! ## The operations -/

section Ops
variable (c : Dev nD)

omit [FloatOps F] in
theorem owing_cons {J : Type} (f : J → CellTallies nD τ sig Unit) (j : J) (l : List J) (R : CellTallies nD τ sig Unit) :
    owing f (j :: l) + R = (owing f l + R) + f j := by
  show ((j :: l).map f).sum + R = _
  rw [List.map_cons, List.sum_cons]
  show f j + owing f l + R = owing f l + R + f j
  rw [add_assoc, add_comm]

/-- The rule for a signal, at a barrier by name. -/
theorem rule_sig (Kt : PUnit → sProp 𝕄) (q : Dev nD) (d : D) (O : CellTallies nD τ sig Unit) {O' : CellTallies nD τ sig Unit} (hO : O' = O + tallyAt (barC q) () 1) (W : Waits sig Unit) (p : Code F) :
    iprop(cellInv ER (Rd m ρ) (K (q, none)) (barC q) ∗ owes (c : Thread nD τ) O' W ∗ dutyTok ER (barC q) 0 d ∗ barPay q d ∗ reached ER (barC q) 0)
      ⊢ iprop((owes (c : Thread nD τ) O W -∗ run c p Kt) -∗ run c (.op (opSig q) fun _ => p) Kt) := by
  have h := Rounds.wp_signal (defs := defs₀ (F := F)) (Γ := []) (Q := Kt) 𝒱₀ ER (Rd m ρ) (c : Thread nD τ) none (dst := (q : Thread nD τ)) (sem := barS) (κ := K (q, none)) (r := 0)
      (d := d) (k' := 1) (k := fun _ => p) (mem_bar m ρ q d) (amount_at m ρ q none 0 d) () O hO (W := W) (Es := Set.univ)
  have hp : (Rd m ρ).payload ((q : Thread nD τ), .reg barS) 0 d = barPay q d := payload_at m ρ q none 0 d
  rw [hp] at h
  exact h

/-- A signal: it pays one duty at the peer's barrier and hands over what the duty says. -/
theorem sig_step (Kt : PUnit → sProp 𝕄) (R : CellTallies nD τ sig Unit) (k : Fin 4) (l : List (Fin 4)) (p : Code F) :
    iprop((dutyTok ER (barC (pr c k)) 0 (rv k) ∗ barPay (pr c k) (rv k)) ∗ (env m ρ K ∗ owes' c (owing (tS c) (k :: l) + R)))
      ⊢ iprop(((emp ∗ (env m ρ K ∗ owes' c (owing (tS c) l + R))) -∗ run c p Kt) -∗ run c (.op (opSig (sigDev c k)) fun _ => p) Kt) := by
  rw [sigDev_eq]
  unfold owes'
  iintro ⟨⟨Htok, Hpay⟩, #He, ⟨%W, HO⟩⟩ Hk
  iapply (rule_sig m ρ K c Kt (pr c k) (rv k) (owing (tS c) l + R) (owing_cons (tS c) k l R) W p) $$ [Htok Hpay HO]
  · isplitr; · iapply (env_inv m ρ K (pr c k, none)); iexact He
    isplitl [HO]; · iexact HO
    isplitl [Htok]; · iexact Htok
    isplitl [Hpay]; · iexact Hpay
    iapply (env_reached m ρ K (pr c k, none)); iexact He
  iintro HO
  iapply Hk
  isplitr; · iempintro
  isplitr; · iexact He
  iexists W; iexact HO

/-- The wait for the barrier, while everything owed is for copies and forwards: what the four peers hand over. -/
theorem bar_step (Kt : PUnit → sProp 𝕄) (p : Code F) :
    iprop(cred (tallyAt (barC c) () 4) ∗ atPos ER (barC c) 0 ∅ 0 ∗ env m ρ K ∗ owes' c (owing (tZ c) order + owing (tX c) order))
      ⊢ iprop(((atPos ER (barC c) 1 ∅ 0 ∗ (bigSep Finset.univ fun d : D => barPay c d) ∗ owes' c (owing (tZ c) order + owing (tX c) order)) -∗ run c p Kt)
        -∗ run c (.op opBar fun _ => p) Kt) := by
  have hm : env m ρ K ⊢ MayWait (c : Thread nD τ) (.reg barS) () (owing (tZ c) order + owing (tX c) order) :=
    env_mayWait m ρ K c (.reg barS) 1 (lv_at (c, none) ()).le _ fun g u h => by
      rcases add_pos' h with h | h
      · obtain ⟨ck, e, h⟩ := tZ_pos h; exact ⟨ck, e, by omega⟩
      · obtain ⟨ck, e, h⟩ := tX_pos h; exact ⟨ck, e, by omega⟩
  unfold owes'
  iintro ⟨Hc, Hat, #He, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := owing (tZ c) order + owing (tX c) order) (W := W) (R := 0) (m := 0) (T := ∅)
      ((Nat.zero_add 4).trans (expect_bar m ρ c).symm)) $$ [Hc HO Hat]
  · isplitr; · iapply (env_inv m ρ K (c, none)); iexact He
    isplitl [Hc]; · iexact Hc
    isplitl [HO]; · iexact HO
    isplitr
    · iapply hm; iexact He
    iexact Hat
  iintro ⟨HO, Hat, -, Hpay⟩
  iapply Hk
  isplitl [Hat]; · iexact Hat
  isplitl [Hpay]; · iapply (Entails.of_eq (rest_bar m ρ c)); iexact Hpay
  iexists _; iexact HO

/-- A wait for a semaphore of the arrays: what its duty hands over. -/
theorem fam_step (Kt : PUnit → sProp 𝕄) (k : Fin 4 × I) (w : Op F) (hw : ∀ K' : PUnit → sProp 𝕄, wpE (defs₀ (F := F)) 𝒱₀ (c : Thread nD τ) none Set.univ w K' = waitSpec (c : Thread nD τ) Set.univ (osem k) N K')
    (O : CellTallies nD τ sig Unit) (hO : ∀ g u, 0 < O g u → ∃ ck : Dev nD × Kd, g = kcell ck ∧ lvl (some k) < lvl ck.2) (p : Code F) :
    iprop(cred (tallyAt (kcell (c, some k)) () N) ∗ atPos ER (kcell (c, some k)) 0 ∅ 0 ∗ env m ρ K ∗ owes' c O)
      ⊢ iprop(((atPos ER (kcell (c, some k)) 1 ∅ 0 ∗ famPay m ρ c k.1 k.2 ∗ owes' c O) -∗ run c p Kt)
        -∗ run c (.op w fun _ => p) Kt) := by
  have hm : env m ρ K ⊢ MayWait (c : Thread nD τ) (osem k) () O := env_mayWait m ρ K c (osem k) (lvl (some k)) (lv_at (c, some k) ()).le O hO
  unfold owes'
  iintro ⟨Hc, Hat, #He, ⟨%W, HO⟩⟩ Hk
  iapply (Rounds.wp_wait_rest_token 𝒱₀ ER (Rd m ρ) (c : Thread nD τ) none (κ := K (c, some k)) hw (Set.mem_univ _) () (O := O) (W := W) (R := 0) (m := 0) (T := ∅)
      ((Nat.zero_add N).trans (expect_fam m ρ c k).symm)) $$ [Hc HO Hat]
  · isplitr; · iapply (env_inv m ρ K (c, some k)); iexact He
    isplitl [Hc]; · iexact Hc
    isplitl [HO]; · iexact HO
    isplitr
    · iapply hm; iexact He
    iexact Hat
  iintro ⟨HO, Hat, -, Hpay⟩
  iapply Hk
  isplitl [Hat]; · iexact Hat
  isplitl [Hpay]; · iapply (Entails.of_eq (rest_fam m ρ c k)); iexact Hpay
  iexists _; iexact HO

/-- The rule for a copy along the third axis, at its two semaphores by name. -/
theorem rule_Z (Kt : PUnit → sProp 𝕄) (i : I) (f : OC F) (O : CellTallies nD τ sig Unit) {O' : CellTallies nD τ sig Unit} (hO : O' = O + tallyAt (zrC (zp c i.2) i) () N) (W : Waits sig Unit) (p : Code F) :
    iprop(cellInv ER (Rd m ρ) (K (c, some (0, i))) (zsC c i) ∗ cellInv ER (Rd m ρ) (K (zp c i.2, some (1, i))) (zrC (zp c i.2) i)
        ∗ xAt m ρ c (xV c i).view.set ∗ oAt (zp c i.2) (dV c i).view.set f ∗ owes (c : Thread nD τ) O' W
        ∗ dutyTok ER (zsC c i) 0 0 ∗ reached ER (zsC c i) 0 ∗ dutyTok ER (zrC (zp c i.2) i) 0 0 ∗ reached ER (zrC (zp c i.2) i) 0)
      ⊢ iprop(((cred (tallyAt (zsC c i) () N) ∗ owes (c : Thread nD τ) O W) -∗ run c p Kt) -∗ run c (.op (opZ c (zp c i.2) i) fun _ => p) Kt) := by
  have hp : ((((zp c i.2 : Dev nD) : Thread nD τ).loc cc0_stg1_0) ↦[(dV c i).view.set]{fullShare} (dV c i).view.write (Elt F) f ((xV c i).view.read (Elt F) (xstg m ρ c)) Finset.univ)
      ⊢ (Rd m ρ).payload (zrC (zp c i.2) i) 0 0 := by
    rw [payload_at, pointsTo_congr (g := outR m ρ (zp c i.2)) (fun j hj => land_z (xstg m ρ) c i f j hj), dV_set c i]
    exact BI.Entails.refl _
  have hq : xAt m ρ c (xV c i).view.set ⊢ (Rd m ρ).payload (zsC c i) 0 0 := by
    rw [payload_at]; exact BI.Entails.refl _
  exact Rounds.wp_send_pointsTo (defs := defs₀ (F := F)) (Γ := []) (Q := Kt) 𝒱₀ ER (Rd m ρ) (c : Thread nD τ) none (κ₁ := K (c, some (0, i))) (κ₂ := K (zp c i.2, some (1, i)))
    (k := fun _ => p) (Es := Set.univ) (sS := .dma (semAt cc0_scratch0 i)) (sem := .dma (semAt cc0_scratch1 i))
    (src := xV c i) (dst := dV c i) (c' := ((zp c i.2 : Dev nD) : Thread nD τ))
    (r₁ := 0) (r₂ := 0) (d₁ := 0) (d₂ := 0) (fs := xstg m ρ c) (fd := f)
    (mem_fam m ρ c (0, i)) (mem_fam m ρ (zp c i.2) (1, i)) () () N (credit_dV c i) (amount_at m ρ c (some (0, i)) 0 0) (amount_at m ρ (zp c i.2) (some (1, i)) 0 0)
    O hO (W := W) hq hp

/-- A copy along the third axis: from its rows of `x` here and the rows it writes there. -/
theorem sendZ_step (Kt : PUnit → sProp 𝕄) (R : CellTallies nD τ sig Unit) (i : I) (l : List I) (p : Code F) :
    iprop((dutyTok ER (zsC c i) 0 0 ∗ dutyTok ER (zrC (zp c i.2) i) 0 0 ∗ xAt m ρ c (xV c i).view.set ∗ oAny (zp c i.2) (rows (zlo (zp c i.2) i) 64))
        ∗ (env m ρ K ∗ owes' c (owing (tZ c) (i :: l) + R)))
      ⊢ iprop(((cred (tallyAt (zsC c i) () N) ∗ (env m ρ K ∗ owes' c (owing (tZ c) l + R))) -∗ run c p Kt)
        -∗ run c (.op (opZ c (zDev c i) i) fun _ => p) Kt) := by
  rw [zDev_eq, ← dV_set c i]
  unfold owes' oAny
  iintro ⟨⟨Hs, Hr, Hx, ⟨%f, Ho⟩⟩, #He, ⟨%W, HO⟩⟩ Hk
  iapply (rule_Z m ρ K c Kt i f (owing (tZ c) l + R) (owing_cons (tZ c) i l R) W p) $$ [Hs Hr Hx Ho HO]
  · isplitr; · iapply (env_inv m ρ K (c, some (0, i))); iexact He
    isplitr; · iapply (env_inv m ρ K (zp c i.2, some (1, i))); iexact He
    isplitl [Hx]; · iexact Hx
    isplitl [Ho]; · iexact Ho
    isplitl [HO]; · iexact HO
    isplitl [Hs]; · iexact Hs
    isplitr; · iapply (env_reached m ρ K (c, some (0, i))); iexact He
    isplitl [Hr]; · iexact Hr
    iapply (env_reached m ρ K (zp c i.2, some (1, i))); iexact He
  iintro ⟨Hc, HO⟩
  iapply Hk
  isplitl [Hc]; · iexact Hc
  isplitr; · iexact He
  iexists W; iexact HO

/-- The rule for a forward, at its two semaphores by name. -/
theorem rule_X (Kt : PUnit → sProp 𝕄) (i : I) (f : OC F) (O : CellTallies nD τ sig Unit) {O' : CellTallies nD τ sig Unit} (hO : O' = O + tallyAt (xrC (xp c) i) () N) (W : Waits sig Unit) (p : Code F) :
    iprop(cellInv ER (Rd m ρ) (K (c, some (2, i))) (xsC c i) ∗ cellInv ER (Rd m ρ) (K (xp c, some (3, i))) (xrC (xp c) i)
        ∗ oAt c (fV c i).view.set (outR m ρ c) ∗ oAt (xp c) (fV c i).view.set f ∗ owes (c : Thread nD τ) O' W
        ∗ dutyTok ER (xsC c i) 0 0 ∗ reached ER (xsC c i) 0 ∗ dutyTok ER (xrC (xp c) i) 0 0 ∗ reached ER (xrC (xp c) i) 0)
      ⊢ iprop(((cred (tallyAt (xsC c i) () N) ∗ owes (c : Thread nD τ) O W) -∗ run c p Kt) -∗ run c (.op (opX c (xp c) i) fun _ => p) Kt) := by
  have hp : ((((xp c : Dev nD) : Thread nD τ).loc cc0_stg1_0) ↦[(fV c i).view.set]{fullShare} (fV c i).view.write (Elt F) f ((fV c i).view.read (Elt F) (outR m ρ c)) Finset.univ)
      ⊢ (Rd m ρ).payload (xrC (xp c) i) 0 0 := by
    rw [payload_at, pointsTo_congr (g := outR m ρ (xp c)) (fun j hj => land_x (xstg m ρ) c i f j hj), fV_set c i]
    show _ ⊢ oAt (xp c) (rows (zlo (xp (xp c)) i) 64) (outR m ρ (xp c))
    rw [xp_xp]
    exact BI.Entails.refl _
  have hq : oAt c (fV c i).view.set (outR m ρ c) ⊢ (Rd m ρ).payload (xsC c i) 0 0 := by
    rw [payload_at, fV_set c i]; exact BI.Entails.refl _
  exact Rounds.wp_send_pointsTo (defs := defs₀ (F := F)) (Γ := []) (Q := Kt) 𝒱₀ ER (Rd m ρ) (c : Thread nD τ) none (κ₁ := K (c, some (2, i))) (κ₂ := K (xp c, some (3, i)))
    (k := fun _ => p) (Es := Set.univ) (sS := .dma (semAt cc0_scratch2 i)) (sem := .dma (semAt cc0_scratch3 i))
    (src := fV c i) (dst := fV c i) (c' := ((xp c : Dev nD) : Thread nD τ))
    (r₁ := 0) (r₂ := 0) (d₁ := 0) (d₂ := 0) (fs := outR m ρ c) (fd := f)
    (mem_fam m ρ c (2, i)) (mem_fam m ρ (xp c) (3, i)) () () N (credit_fV c i) (amount_at m ρ c (some (2, i)) 0 0) (amount_at m ρ (xp c) (some (3, i)) 0 0)
    O hO (W := W) hq hp

/-- A forward: from the rows received here and the same rows there. -/
theorem sendX_step (Kt : PUnit → sProp 𝕄) (R : CellTallies nD τ sig Unit) (i : I) (l : List I) (p : Code F) :
    iprop((dutyTok ER (xsC c i) 0 0 ∗ dutyTok ER (xrC (xp c) i) 0 0 ∗ oAt c (rows (zlo c i) 64) (outR m ρ c) ∗ oAny (xp c) (rows (zlo c i) 64))
        ∗ (env m ρ K ∗ owes' c (owing (tX c) (i :: l) + R)))
      ⊢ iprop(((cred (tallyAt (xsC c i) () N) ∗ (env m ρ K ∗ owes' c (owing (tX c) l + R))) -∗ run c p Kt)
        -∗ run c (.op (opX c (xDev c i) i) fun _ => p) Kt) := by
  rw [xDev_eq, ← fV_set c i]
  unfold owes' oAny
  iintro ⟨⟨Hs, Hr, Hx, ⟨%f, Ho⟩⟩, #He, ⟨%W, HO⟩⟩ Hk
  iapply (rule_X m ρ K c Kt i f (owing (tX c) l + R) (owing_cons (tX c) i l R) W p) $$ [Hs Hr Hx Ho HO]
  · isplitr; · iapply (env_inv m ρ K (c, some (2, i))); iexact He
    isplitr; · iapply (env_inv m ρ K (xp c, some (3, i))); iexact He
    isplitl [Hx]; · iexact Hx
    isplitl [Ho]; · iexact Ho
    isplitl [HO]; · iexact HO
    isplitl [Hs]; · iexact Hs
    isplitr; · iapply (env_reached m ρ K (c, some (2, i))); iexact He
    isplitl [Hr]; · iexact Hr
    iapply (env_reached m ρ K (xp c, some (3, i))); iexact He
  iintro ⟨Hc, HO⟩
  iapply Hk
  isplitl [Hc]; · iexact Hc
  isplitr; · iexact He
  iexists W; iexact HO

omit [FloatOps F] in
theorem xOwn_sub : ((xM : Memref sig .tc .vmem S512x2048 .f32).view.setOn (xOwn c).toLoadRect.set : Finset S512x2048.Idx) ⊆ xRest c := by
  have h := xOwn_subset c
  rwa [View.set_slice] at h

set_option maxHeartbeats 1600000 in
/-- The own block, loaded from `x` and stored into the result. -/
theorem own_step (Kt : PUnit → sProp 𝕄) (p : Code F) :
    iprop(xAt m ρ c (xRest c) ∗ oAny c (rows (512 * (c.val % 4)) 512))
      ⊢ iprop(((xAt m ρ c (xRest c) ∗ oAt c (rows (512 * (c.val % 4)) 512) (outR m ρ c)) -∗ run c p Kt) -∗ run c (ownBlock c p) Kt) := by
  rw [← oOwn_set c]
  unfold oAny ownBlock xAt oAt
  iintro ⟨Hx, ⟨%f, Ho⟩⟩ Hk
  iapply (wp_load 𝒱₀ (c : Thread nD τ) none Set.univ (m := xM) (xOwn_sub c)) $$ Hx
  iintro Hx
  iapply (wp_load_rect 𝒱₀ (c : Thread nD τ) none Set.univ (m := oM) (r := oOwn c) (Finset.Subset.refl _)) $$ Ho
  iintro Ho
  iapply (wp_store 𝒱₀ (c : Thread nD τ) none Set.univ (m := oM) (r := oOwn c) (Mk := Finset.univ) (S := (oM.access (oOwn c)).set) (f := f) (Finset.Subset.refl _)) $$ Ho
  iintro Ho
  iapply Hk
  isplitl [Hx]; · iexact Hx
  iapply (Entails.of_eq (pointsTo_congr (g := outR m ρ c) (fun j hj => land_own (xstg m ρ) c f j hj)))
  iexact Ho

end Ops

end Cert.A2A

end
-- ==== Proof.Phases.lean ====
/-
# The phases

Each phase of the body runs one step at every index: the signals, the copies, each copy awaited and forwarded, and the last
waits. What each needs and leaves is stated over all the indices at once. Before and after them: how a device's result is
cut into its own rows and the twenty-four pieces it receives, and its block of `x` into the twelve pieces it sends and the
rest.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Over the index sets -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_bool (Φ : Bool → sProp 𝕄) : bigSep Finset.univ Φ = iprop(Φ true ∗ Φ false) :=
  bigSep_univ_eq_bigSepL [true, false] (by decide) (by decide) Φ
omit [FloatOps F] in
/-- Over the indices: distance by distance. -/
theorem bigSep_I (Φ : I → sProp 𝕄) : bigSep Finset.univ Φ
    = iprop((bigSep Finset.univ fun ch => Φ (ch, 0)) ∗ (bigSep Finset.univ fun ch => Φ (ch, 1)) ∗ (bigSep Finset.univ fun ch => Φ (ch, 2))) := by
  rw [bigSep_univ_equiv (Equiv.prodComm (Fin 3) (Fin 4)) Φ, bigSep_univ_prod, bigSep_fin3]; rfl
omit [FloatOps F] in
/-- Over a device's semaphores: the barrier and the arrays'. -/
theorem bigSep_opt (Φ : Kd → sProp 𝕄) : bigSep Finset.univ Φ = iprop(Φ none ∗ bigSep Finset.univ fun k => Φ (some k)) := by
  rw [show (Finset.univ : Finset Kd) = insert none (Finset.univ.map Function.Embedding.some) from by ext (_ | _) <;> simp,
    bigSep_insert (by simp), bigSep_map]
  rfl
omit [FloatOps F] in
/-- Over a device's semaphores: the barrier and the four families. -/
theorem bigSep_Kd (Φ : Kd → sProp 𝕄) : bigSep Finset.univ Φ
    = iprop(Φ none ∗ (bigSep Finset.univ fun i => Φ (some (0, i))) ∗ (bigSep Finset.univ fun i => Φ (some (1, i)))
      ∗ (bigSep Finset.univ fun i => Φ (some (2, i))) ∗ (bigSep Finset.univ fun i => Φ (some (3, i)))) := by
  rw [bigSep_opt, bigSep_univ_prod, bigSep_fin4]

/-! ## The result and its pieces -/

omit [FloatOps F] in
/-- A device's result: its own rows, the pieces copied to it, the pieces forwarded to it. -/
theorem o_cut (c : Dev nD) (f : OC F) : (oAt c Finset.univ f : sProp 𝕄)
    = iprop(oAt c (rows (512 * (c.val % 4)) 512) f ∗ (bigSep Finset.univ fun i : I => oAt c (rows (zlo c i) 64) f)
      ∗ bigSep Finset.univ fun i : I => oAt c (rows (zlo (xp c) i) 64) f) := by
  have h : (oAt c (received c) f : sProp 𝕄) = bigSep Finset.univ fun p : Bool × I => oAt c (piece c p) f := by
    unfold oAt received
    exact pointsTo_biUnion (ℓ := (c : Thread nD τ).loc cc0_stg1_0) Finset.univ (piece c) fun p _ q _ => piece_disjoint c p q
  rw [bigSep_univ_prod, bigSep_bool] at h
  rw [← own_union c]
  have hu : (oAt c (rows (512 * (c.val % 4)) 512 ∪ received c) f : sProp 𝕄) = iprop(oAt c (rows (512 * (c.val % 4)) 512) f ∗ oAt c (received c) f) := by
    have hd : (((c : Thread nD τ).loc cc0_stg1_0) ↦[rows (512 * (c.val % 4)) 512 ∪ received c]{fullShare} f : sProp 𝕄) ⊣⊢ _ := pointsTo_union (own_disjoint c)
    exact equiv_iff.mp ⟨hd.1, hd.2⟩
  rw [hu, h]
  rfl

omit [FloatOps F] in
theorem any_intro (c : Dev nD) (S : Finset S2048x512.Idx) (f : OC F) : (oAt c S f : sProp 𝕄) ⊢ oAny c S := by
  unfold oAny; iintro H; iexists f; iexact H

omit [FloatOps F] in
theorem any_all (c : Dev nD) (lo : I → ℕ) (f : OC F) :
    (bigSep Finset.univ fun i : I => (oAt c (rows (lo i) 64) f : sProp 𝕄)) ⊢ bigSep Finset.univ fun i : I => oAny c (rows (lo i) 64) :=
  bigSep_mono fun i _ => any_intro c (rows (lo i) 64) f

omit [FloatOps F] in
/-- The pieces of its result, dealt to the peers that write them: what its four signals hand over. -/
theorem give (c : Dev nD) : (iprop((bigSep Finset.univ fun i : I => oAny c (rows (zlo c i) 64)) ∗ bigSep Finset.univ fun i : I => oAny c (rows (zlo (xp c) i) 64)) : sProp 𝕄)
    ⊢ bigSep Finset.univ fun k : Fin 4 => barPay (pr c k) (rv k) := by
  have h0 : (barPay (pr c 0) (rv 0) : sProp 𝕄) = bigSep Finset.univ fun ch : Fin 4 => oAny c (rows (zlo c (ch, 2)) 64) := by
    have e : zp (pr c 0) 2 = c := zp_zp c 0
    show (bigSep Finset.univ fun ch : Fin 4 => oAny (zp (pr c 0) 2) (rows (zlo (zp (pr c 0) 2) (ch, 2)) 64)) = _
    rw [e]
  have h1 : (barPay (pr c 1) (rv 1) : sProp 𝕄) = bigSep Finset.univ fun ch : Fin 4 => oAny c (rows (zlo c (ch, 1)) 64) := by
    have e : zp (pr c 1) 1 = c := zp_zp c 1
    show (bigSep Finset.univ fun ch : Fin 4 => oAny (zp (pr c 1) 1) (rows (zlo (zp (pr c 1) 1) (ch, 1)) 64)) = _
    rw [e]
  have h2 : (barPay (pr c 2) (rv 2) : sProp 𝕄) = bigSep Finset.univ fun ch : Fin 4 => oAny c (rows (zlo c (ch, 0)) 64) := by
    have e : zp (pr c 2) 0 = c := zp_zp c 2
    show (bigSep Finset.univ fun ch : Fin 4 => oAny (zp (pr c 2) 0) (rows (zlo (zp (pr c 2) 0) (ch, 0)) 64)) = _
    rw [e]
  have h3 : (barPay (pr c 3) (rv 3) : sProp 𝕄) = bigSep Finset.univ fun i : I => oAny c (rows (zlo (xp c) i) 64) := by
    have e : xp (pr c 3) = c := xp_xp c
    show (bigSep Finset.univ fun i : I => oAny (xp (pr c 3)) (rows (zlo (pr c 3) i) 64)) = _
    rw [e]; rfl
  rw [bigSep_fin4, h0, h1, h2, h3, bigSep_I (fun i : I => oAny c (rows (zlo c i) 64))]
  iintro ⟨⟨H0, H1, H2⟩, H3⟩
  isplitl [H2]; · iexact H2
  isplitl [H1]; · iexact H1
  isplitl [H0] <;> iassumption

omit [FloatOps F] in
/-- What its barrier hands a device: the pieces of the others' results that it writes. -/
theorem take (c : Dev nD) : (bigSep Finset.univ fun d : D => (barPay c d : sProp 𝕄))
    ⊢ iprop((bigSep Finset.univ fun i : I => oAny (zp c i.2) (rows (zlo (zp c i.2) i) 64)) ∗ bigSep Finset.univ fun i : I => oAny (xp c) (rows (zlo c i) 64)) := by
  have h0 : (barPay c 0 : sProp 𝕄) = bigSep Finset.univ fun ch : Fin 4 => oAny (zp c 0) (rows (zlo (zp c 0) (ch, 0)) 64) := rfl
  have h1 : (barPay c 1 : sProp 𝕄) = bigSep Finset.univ fun ch : Fin 4 => oAny (zp c 1) (rows (zlo (zp c 1) (ch, 1)) 64) := rfl
  have h2 : (barPay c 2 : sProp 𝕄) = bigSep Finset.univ fun ch : Fin 4 => oAny (zp c 2) (rows (zlo (zp c 2) (ch, 2)) 64) := rfl
  have h3 : (barPay c 3 : sProp 𝕄) = bigSep Finset.univ fun i : I => oAny (xp c) (rows (zlo c i) 64) := rfl
  rw [bigSep_fin4, bigSep_I (fun i : I => oAny (zp c i.2) (rows (zlo (zp c i.2) i) 64)), h0, h1, h2, h3]
  iintro ⟨H0, H1, H2, H3⟩
  isplitl [H0 H1 H2]
  · isplitl [H0]; · iexact H0
    isplitl [H1] <;> iassumption
  iexact H3

omit [FloatOps F] in
/-- A device's block of `x`: the pieces it sends and the rest. -/
theorem x_cut (c : Dev nD) : (xAt m ρ c Finset.univ : sProp 𝕄)
    = iprop((bigSep Finset.univ fun i : I => xAt m ρ c (xV c i).view.set) ∗ xAt m ρ c (xRest c)) := by
  have h : (xAt m ρ c (Finset.univ.biUnion fun i : I => ((xV c i).view.set : Finset S512x2048.Idx)) : sProp 𝕄) = bigSep Finset.univ fun i : I => xAt m ρ c (xV c i).view.set := by
    unfold xAt
    exact pointsTo_biUnion (ℓ := (c : Thread nD τ).loc cc0_stg0_0) Finset.univ (fun i : I => ((xV c i).view.set : Finset S512x2048.Idx)) fun i _ j _ => xV_disjoint c i j
  have hs : (((c : Thread nD τ).loc cc0_stg0_0) ↦[Finset.univ]{fullShare} xstg m ρ c : sProp 𝕄) ⊣⊢ _ :=
    pointsTo_split_subset (Finset.subset_univ (Finset.univ.biUnion fun i : I => ((xV c i).view.set : Finset S512x2048.Idx)))
  have hu : (xAt m ρ c Finset.univ : sProp 𝕄)
      = iprop(xAt m ρ c (Finset.univ.biUnion fun i : I => ((xV c i).view.set : Finset S512x2048.Idx)) ∗ xAt m ρ c (xRest c)) :=
    equiv_iff.mp ⟨hs.1, hs.2⟩
  rw [hu, h]

/-! ## The phases -/

section Phases
variable (K : Dev nD × Kd → ℕ) (c : Dev nD)

omit [FloatOps F] in
theorem owing_nil {J : Type} (f : J → CellTallies nD τ sig Unit) (R : CellTallies nD τ sig Unit) : owing f [] + R = R := zero_add R

/-- The signals. -/
theorem sigs_phase (Kt : PUnit → sProp 𝕄) (p : Code F) :
    iprop((bigSep Finset.univ fun k : Fin 4 => iprop(dutyTok ER (barC (pr c k)) 0 (rv k) ∗ barPay (pr c k) (rv k))) ∗ (env m ρ K ∗ owes' c (O₀ c)))
      ⊢ iprop((owes' c (owing (tZ c) order + owing (tX c) order) -∗ run c p Kt) -∗ run c (sigs c p) Kt) := by
  have h := each_run (fun k p => .op (opSig (sigDev c k)) fun _ => p) c Kt
    (fun k => iprop(dutyTok ER (barC (pr c k)) 0 (rv k) ∗ barPay (pr c k) (rv k))) (fun _ => iprop(emp))
    (fun l => iprop(env m ρ K ∗ owes' c (owing (tS c) l + (owing (tZ c) order + owing (tX c) order))))
    (fun k l p => sig_step m ρ K c Kt _ k l p) [0, 1, 2, 3] p
  rw [all_sig, owing_nil] at h
  unfold O₀ sigs
  iintro H Hk
  iapply h $$ H
  iintro ⟨-, -, HO⟩
  iapply Hk
  iexact HO

/-- The copies along the third axis. -/
theorem sendsZ_phase (Kt : PUnit → sProp 𝕄) (R : CellTallies nD τ sig Unit) (p : Code F) :
    iprop((bigSep Finset.univ fun i : I => iprop(dutyTok ER (zsC c i) 0 0 ∗ dutyTok ER (zrC (zp c i.2) i) 0 0 ∗ xAt m ρ c (xV c i).view.set
          ∗ oAny (zp c i.2) (rows (zlo (zp c i.2) i) 64))) ∗ (env m ρ K ∗ owes' c (owing (tZ c) order + R)))
      ⊢ iprop((((bigSep Finset.univ fun i : I => cred (tallyAt (zsC c i) () N)) ∗ owes' c R) -∗ run c p Kt) -∗ run c (sendsZ c p) Kt) := by
  have h := each_run (fun i p => .op (opZ c (zDev c i) i) fun _ => p) c Kt
    (fun i => iprop(dutyTok ER (zsC c i) 0 0 ∗ dutyTok ER (zrC (zp c i.2) i) 0 0 ∗ xAt m ρ c (xV c i).view.set
          ∗ oAny (zp c i.2) (rows (zlo (zp c i.2) i) 64))) (fun i => cred (tallyAt (zsC c i) () N))
    (fun l => iprop(env m ρ K ∗ owes' c (owing (tZ c) l + R)))
    (fun i l p => sendZ_step m ρ K c Kt R i l p) order p
  rw [all_order, all_order, owing_nil] at h
  iintro H Hk
  iapply h $$ H
  iintro ⟨Hc, -, HO⟩
  iapply Hk
  isplitl [Hc] <;> iassumption

omit [FloatOps F] in
/-- What the waits hand over, family by family. -/
theorem famPay_zs (i : I) : (famPay m ρ c (0, i).1 (0, i).2 : sProp 𝕄) = xAt m ρ c (xV c i).view.set := rfl
omit [FloatOps F] in
theorem famPay_zr (i : I) : (famPay m ρ c (1, i).1 (1, i).2 : sProp 𝕄) = oAt c (rows (zlo c i) 64) (outR m ρ c) := rfl
omit [FloatOps F] in
theorem famPay_xs (i : I) : (famPay m ρ c (2, i).1 (2, i).2 : sProp 𝕄) = oAt c (rows (zlo c i) 64) (outR m ρ c) := rfl
omit [FloatOps F] in
theorem famPay_xr (i : I) : (famPay m ρ c (3, i).1 (3, i).2 : sProp 𝕄) = oAt c (rows (zlo (xp c) i) 64) (outR m ρ c) := rfl

/-- Each copy awaited, then forwarded. -/
theorem forwards_phase (Kt : PUnit → sProp 𝕄) (p : Code F) :
    iprop((bigSep Finset.univ fun i : I => iprop((cred (tallyAt (zrC c i) () N) ∗ atPos ER (zrC c i) 0 ∅ 0)
          ∗ (dutyTok ER (xsC c i) 0 0 ∗ dutyTok ER (xrC (xp c) i) 0 0 ∗ oAny (xp c) (rows (zlo c i) 64)))) ∗ (env m ρ K ∗ owes' c (owing (tX c) order + 0)))
      ⊢ iprop((((bigSep Finset.univ fun i : I => iprop(atPos ER (zrC c i) 1 ∅ 0 ∗ cred (tallyAt (xsC c i) () N))) ∗ owes' c 0) -∗ run c p Kt)
        -∗ run c (forwards c p) Kt) := by
  have h := each_run (fun i p => .op (opWzr c i) fun _ => .op (opX c (xDev c i) i) fun _ => p) c Kt
    (fun i => iprop((cred (tallyAt (zrC c i) () N) ∗ atPos ER (zrC c i) 0 ∅ 0)
          ∗ (dutyTok ER (xsC c i) 0 0 ∗ dutyTok ER (xrC (xp c) i) 0 0 ∗ oAny (xp c) (rows (zlo c i) 64))))
    (fun i => iprop(atPos ER (zrC c i) 1 ∅ 0 ∗ cred (tallyAt (xsC c i) () N)))
    (fun l => iprop(env m ρ K ∗ owes' c (owing (tX c) l + 0)))
    (fun i l p => by
      iintro ⟨⟨⟨Hc, Hat⟩, Ht1, Ht2, Ho⟩, #He, HO⟩ Hk
      iapply (fam_step m ρ K c Kt (1, i) (opWzr c i) (fun K' => by rw [← credit_dV c i]; exact wpE_waitDma2_eq 𝒱₀ (c : Thread nD τ) none Set.univ K')
        (owing (tX c) (i :: l) + 0) (fun g u hg => by
          rw [add_zero] at hg
          obtain ⟨ck, e, h⟩ := tX_pos hg
          exact ⟨ck, e, by rw [h]; exact (by decide : 2 < 3)⟩) (.op (opX c (xDev c i) i) fun _ => p)) $$ [Hc Hat HO]
      · isplitl [Hc]; · iexact Hc
        isplitl [Hat]; · iexact Hat
        isplitr; · iexact He
        iexact HO
      iintro ⟨Hat, Hp, HO⟩
      ihave Hp := (Entails.of_eq (famPay_zr m ρ c i)) $$ Hp
      iapply (sendX_step m ρ K c Kt 0 i l p) $$ [Ht1 Ht2 Ho Hp HO]
      · isplitl [Ht1 Ht2 Ho Hp]
        · isplitl [Ht1]; · iexact Ht1
          isplitl [Ht2]; · iexact Ht2
          isplitl [Hp]; · iexact Hp
          iexact Ho
        isplitr; · iexact He
        iexact HO
      iintro ⟨Hc, H⟩
      iapply Hk
      isplitl [Hat Hc]
      · isplitl [Hat] <;> iassumption
      iexact H) order p
  rw [all_order, all_order, owing_nil] at h
  iintro H Hk
  iapply h $$ H
  iintro ⟨Hc, -, HO⟩
  iapply Hk
  isplitl [Hc] <;> iassumption

/-- The last waits: every piece of the result in place, and the pieces of `x` back. -/
theorem drains_phase (Kt : PUnit → sProp 𝕄) (p : Code F) :
    iprop((bigSep Finset.univ fun i : I => iprop((cred (tallyAt (xrC c i) () N) ∗ atPos ER (xrC c i) 0 ∅ 0)
          ∗ (cred (tallyAt (xsC c i) () N) ∗ atPos ER (xsC c i) 0 ∅ 0) ∗ (cred (tallyAt (zsC c i) () N) ∗ atPos ER (zsC c i) 0 ∅ 0))) ∗ (env m ρ K ∗ owes' c 0))
      ⊢ iprop((((bigSep Finset.univ fun i : I => iprop((atPos ER (xrC c i) 1 ∅ 0 ∗ oAt c (rows (zlo (xp c) i) 64) (outR m ρ c))
            ∗ (atPos ER (xsC c i) 1 ∅ 0 ∗ oAt c (rows (zlo c i) 64) (outR m ρ c)) ∗ (atPos ER (zsC c i) 1 ∅ 0 ∗ xAt m ρ c (xV c i).view.set))) ∗ owes' c 0) -∗ run c p Kt)
        -∗ run c (drains c p) Kt) := by
  have h0 (k : Kd) (g : GSem nD τ sig) (u : Unit) (h : 0 < (0 : CellTallies nD τ sig Unit) g u) : ∃ ck : Dev nD × Kd, g = kcell ck ∧ lvl k < lvl ck.2 :=
    absurd h (Nat.lt_irrefl 0)
  have h := each_run (fun i p => .op (opWxr c i) fun _ => .op (opWxs c i) fun _ => .op (opWzs c i) fun _ => p) c Kt
    (fun i => iprop((cred (tallyAt (xrC c i) () N) ∗ atPos ER (xrC c i) 0 ∅ 0)
          ∗ (cred (tallyAt (xsC c i) () N) ∗ atPos ER (xsC c i) 0 ∅ 0) ∗ (cred (tallyAt (zsC c i) () N) ∗ atPos ER (zsC c i) 0 ∅ 0)))
    (fun i => iprop((atPos ER (xrC c i) 1 ∅ 0 ∗ oAt c (rows (zlo (xp c) i) 64) (outR m ρ c))
            ∗ (atPos ER (xsC c i) 1 ∅ 0 ∗ oAt c (rows (zlo c i) 64) (outR m ρ c)) ∗ (atPos ER (zsC c i) 1 ∅ 0 ∗ xAt m ρ c (xV c i).view.set)))
    (fun l => iprop(env m ρ K ∗ owes' c 0))
    (fun i l p => by
      iintro ⟨⟨⟨Hc, Hat⟩, ⟨Hc', Hat'⟩, ⟨Hc'', Hat''⟩⟩, #He, HO⟩ Hk
      iapply (fam_step m ρ K c Kt (3, i) (opWxr c i) (fun K' => by rw [← credit_fV c i]; exact wpE_waitDma2_eq 𝒱₀ (c : Thread nD τ) none Set.univ K')
        0 (h0 _) (.op (opWxs c i) fun _ => .op (opWzs c i) fun _ => p)) $$ [Hc Hat HO]
      · isplitl [Hc]; · iexact Hc
        isplitl [Hat]; · iexact Hat
        isplitr; · iexact He
        iexact HO
      iintro ⟨Hat, Hp, HO⟩
      iapply (fam_step m ρ K c Kt (2, i) (opWxs c i) (fun K' => by rw [← credit_fV c i]; exact wpE_waitDma2_eq 𝒱₀ (c : Thread nD τ) none Set.univ K')
        0 (h0 _) (.op (opWzs c i) fun _ => p)) $$ [Hc' Hat' HO]
      · isplitl [Hc']; · iexact Hc'
        isplitl [Hat']; · iexact Hat'
        isplitr; · iexact He
        iexact HO
      iintro ⟨Hat', Hp', HO⟩
      iapply (fam_step m ρ K c Kt (0, i) (opWzs c i) (fun K' => by rw [← credit_xV c i]; exact wpE_waitDma2_eq 𝒱₀ (c : Thread nD τ) none Set.univ K')
        0 (h0 _) p) $$ [Hc'' Hat'' HO]
      · isplitl [Hc'']; · iexact Hc''
        isplitl [Hat'']; · iexact Hat''
        isplitr; · iexact He
        iexact HO
      iintro ⟨Hat'', Hp'', HO⟩
      ihave Hp := (Entails.of_eq (famPay_xr m ρ c i)) $$ Hp
      ihave Hp' := (Entails.of_eq (famPay_xs m ρ c i)) $$ Hp'
      ihave Hp'' := (Entails.of_eq (famPay_zs m ρ c i)) $$ Hp''
      iapply Hk
      isplitl [Hat Hp Hat' Hp' Hat'' Hp'']
      · isplitl [Hat Hp]
        · isplitl [Hat] <;> iassumption
        isplitl [Hat' Hp']
        · isplitl [Hat'] <;> iassumption
        isplitl [Hat''] <;> iassumption
      isplitr; · iexact He
      iexact HO) order p
  rw [all_order, all_order] at h
  iintro H Hk
  iapply h $$ H
  iintro ⟨Hc, -, HO⟩
  iapply Hk
  isplitl [Hc] <;> iassumption

end Phases

end Cert.A2A

end
-- ==== Proof.Body.lean ====
/-
# The body

From the semaphores, the tokens of the duties a device pays, its launch credits and its two staged buffers, the body runs
to the end and leaves its block of `x` as it was, its part of the result complete and every semaphore of its own at zero.
-/
module

public import proofs.«01_k».proof.Proof.Phases

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays: at its four peers' barriers, at its own sent semaphores, and at the received
    semaphores of the devices it writes to. -/
def payToks (c : Dev nD) : sProp 𝕄 :=
  iprop((bigSep Finset.univ fun k : Fin 4 => dutyTok ER (barC (pr c k)) 0 (rv k))
    ∗ (bigSep Finset.univ fun i : I => dutyTok ER (zsC c i) 0 0) ∗ (bigSep Finset.univ fun i : I => dutyTok ER (zrC (zp c i.2) i) 0 0)
    ∗ (bigSep Finset.univ fun i : I => dutyTok ER (xsC c i) 0 0) ∗ (bigSep Finset.univ fun i : I => dutyTok ER (xrC (xp c) i) 0 0))

/-- Every semaphore's record, the device's positions at its own semaphores, and those tokens. -/
def ghost (K : Dev nD × Kd → ℕ) (c : Dev nD) : sProp 𝕄 :=
  iprop(recs m ρ K ∗ (bigSep Finset.univ fun k : Kd => atPos ER (kcell (c, k)) 0 ∅ 0) ∗ payToks c)

/-- The credit the others owe device `c`: its barrier's four units, and a copy's credit at each received semaphore. -/
def creds (c : Dev nD) : sProp 𝕄 :=
  iprop(cred (tallyAt (barC c) () 4) ∗ (bigSep Finset.univ fun i : I => cred (tallyAt (zrC c i) () N))
    ∗ bigSep Finset.univ fun i : I => cred (tallyAt (xrC c i) () N))

def start (c : Dev nD) : sProp 𝕄 := iprop((∃ K, ghost m ρ K c) ∗ creds c ∗ levAts L lv)
/-- At the end: every semaphore of the device's at zero. -/
def done (c : Dev nD) : sProp 𝕄 := bigSep Finset.univ fun k : Kd => semVal (kcell (c, k)) 0

/-! ## The run -/

/-- All the semaphores of a device, their rounds over, close at zero. -/
theorem close_all (K : Dev nD × Kd → ℕ) (c : Dev nD) :
    iprop(env m ρ K ∗ bigSep Finset.univ fun k : Kd => atPos ER (kcell (c, k)) 1 ∅ 0) ⊢ (|={Set.univ}=> done c : sProp 𝕄) := by
  refine BI.Entails.trans (bigSep_with_persistent (R := env m ρ K) (Ψ := fun k : Kd => iprop(cellInv ER (Rd m ρ) (K (c, k)) (kcell (c, k)) ∗ atPos ER (kcell (c, k)) 1 ∅ 0)) ?_)
    (Rounds.cells_close ER (Rd m ρ) Finset.univ (fun k => kcell (c, k)) (fun k => K (c, k)) (fun _ _ => Set.mem_univ _) (fun _ _ h => h) (fun _ => 1)
      (fun k _ => duties_later m ρ (kcell (c, k))))
  intro k _
  iintro ⟨#He, Hat⟩
  isplitr; · iapply (env_inv m ρ K (c, k)); iexact He
  iexact Hat

set_option maxHeartbeats 1000000 in
/-- The chain, from those to those. -/
theorem run_body (K : Dev nD × Kd → ℕ) (c : Dev nD) (f : OC F) (Kt : PUnit → sProp 𝕄) :
    iprop((ghost m ρ K c ∗ creds c ∗ levAts L lv ∗ owes' c (O₀ c) ∗ xAt m ρ c Finset.univ ∗ oAt c Finset.univ f)
        ∗ ((done c ∗ owes' c 0 ∗ xAt m ρ c Finset.univ ∗ oAt c Finset.univ (outR m ρ c)) -∗ Kt ⟨⟩))
      ⊢ run c (body (F := F)) Kt := by
  unfold body run
  rw [wp_deviceId]
  unfold ghost creds payToks
  rw [o_cut, o_cut, x_cut, bigSep_Kd]
  iintro ⟨⟨⟨#Hr, ⟨HaB, HaZs, HaZr, HaXs, HaXr⟩, HtB, HtZs, HtZr, HtXs, HtXr⟩, ⟨HcB, HcZr, HcXr⟩, #Hl, HO, ⟨Hxs, Hx⟩, ⟨Ho, Hoz, Hox⟩⟩, Hk⟩
  ihave #He : (env m ρ K) $$ []
  · unfold env; isplitr; · iexact Hr
    iexact Hl
  -- the signals
  iapply (sigs_phase m ρ K c Kt _) $$ [HtB Hoz Hox HO]
  · isplitl [HtB Hoz Hox]
    · rw [bigSep_sep']
      isplitl [HtB]; · iexact HtB
      iapply (give c)
      isplitl [Hoz]
      · iapply (any_all c (zlo c) f); iexact Hoz
      · iapply (any_all c (zlo (xp c)) f); iexact Hox
    isplitr; · iexact He
    iexact HO
  iintro HO
  -- the wait for the barrier
  iapply (bar_step m ρ K c Kt _) $$ [HcB HaB HO]
  · isplitl [HcB]; · iexact HcB
    isplitl [HaB]; · iexact HaB
    isplitr; · iexact He
    iexact HO
  iintro ⟨HaB, Hp, HO⟩
  ihave Hp := (take c) $$ Hp
  icases Hp with ⟨Hz, Hf⟩
  -- the copies
  iapply (sendsZ_phase m ρ K c Kt (owing (tX c) order) _) $$ [HtZs HtZr Hxs Hz HO]
  · isplitl [HtZs HtZr Hxs Hz]
    · rw [bigSep_sep', bigSep_sep', bigSep_sep']
      isplitl [HtZs]; · iexact HtZs
      isplitl [HtZr]; · iexact HtZr
      isplitl [Hxs] <;> iassumption
    isplitr; · iexact He
    iexact HO
  iintro ⟨HcZs, HO⟩
  -- the own block
  iapply (own_step m ρ c Kt _) $$ [Hx Ho]
  · isplitl [Hx]; · iexact Hx
    iapply (any_intro c _ f); iexact Ho
  iintro ⟨Hx, Ho⟩
  -- each copy awaited and forwarded
  iapply (forwards_phase m ρ K c Kt _) $$ [HcZr HaZr HtXs HtXr Hf HO]
  · isplitl [HcZr HaZr HtXs HtXr Hf]
    · rw [bigSep_sep', bigSep_sep', bigSep_sep', bigSep_sep']
      isplitl [HcZr HaZr]
      · isplitl [HcZr] <;> iassumption
      isplitl [HtXs]; · iexact HtXs
      isplitl [HtXr] <;> iassumption
    isplitr; · iexact He
    rw [add_zero]; iexact HO
  iintro ⟨H, HO⟩
  ihave H := (Entails.of_eq (bigSep_sep' _ _ _)) $$ H
  icases H with ⟨HaZr, HcXs⟩
  -- the last waits
  iapply (drains_phase m ρ K c Kt _) $$ [HcXr HaXr HcXs HaXs HcZs HaZs HO]
  · isplitl [HcXr HaXr HcXs HaXs HcZs HaZs]
    · rw [bigSep_sep', bigSep_sep', bigSep_sep', bigSep_sep', bigSep_sep']
      isplitl [HcXr HaXr]
      · isplitl [HcXr] <;> iassumption
      isplitl [HcXs HaXs]
      · isplitl [HcXs] <;> iassumption
      isplitl [HcZs] <;> iassumption
    isplitr; · iexact He
    iexact HO
  rw [bigSep_sep', bigSep_sep', bigSep_sep', bigSep_sep', bigSep_sep']
  iintro ⟨⟨⟨HaXr, Hox⟩, ⟨HaXs, Hoz⟩, ⟨HaZs, Hxs⟩⟩, HO⟩
  -- the semaphores close
  unfold run
  rw [wp_ret]
  imod (close_all m ρ K c) $$ [HaB HaZs HaZr HaXs HaXr] with Hd
  · isplitr; · iexact He
    rw [bigSep_Kd]
    isplitl [HaB]; · iexact HaB
    isplitl [HaZs]; · iexact HaZs
    isplitl [HaZr]; · iexact HaZr
    isplitl [HaXs] <;> iassumption
  imodintro
  iapply Hk
  isplitl [Hd]; · iexact Hd
  isplitl [HO]; · iexact HO
  isplitl [Hxs Hx]
  · isplitl [Hxs] <;> iassumption
  isplitl [Ho]; · iexact Ho
  isplitl [Hoz] <;> iassumption

end Cert.A2A

end
-- ==== Proof.Launch.lean ====
/-
# The launch

The launch mints every semaphore's record and tokens, deals each token to the device that pays the duty, and gives every
device the credit the others owe it; from there the body runs on every device. At the end every device's result is the
computed one, its block of `x` is as it was, and every semaphore is at zero.
-/
module

public import proofs.«01_k».proof.Proof.Body
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data and the body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outR m ρ c
  Φ t := match t with
    | ⟨0, _⟩ => start m ρ c
    | ⟨_ + 1, _⟩ => done c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A staged buffer held whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(done c ∗ (dats m ρ 0 c).owesAt () t₀.succ ∗ stg c cc0_stg0_0 (xstg m ρ c) ∗ stg c cc0_stg1_0 (outR m ρ c))

/-- What device `c` owes, before the body and after it. -/
theorem owesAt_pre (c : Dev nD) : (dats m ρ 0 c).owesAt () t₀.castSucc ⊢ owes' c (O₀ c) := by
  unfold Dat.owesAt Pipeline.owesWithin owes'
  rw [show (dats m ρ 0 c).owed t₀.castSucc = O₀ c from rfl]
  iintro ⟨%W, -, HO⟩
  iexists W; iexact HO
theorem owesAt_post (c : Dev nD) : owes' c 0 ⊢ (dats m ρ 0 c).owesAt () t₀.succ := by
  unfold Dat.owesAt Pipeline.owesWithin owes'
  rw [show (dats m ρ 0 c).owed t₀.succ = 0 from rfl]
  iintro ⟨%W, HO⟩
  iexists W
  isplitr; · ipureintro; exact fun _ _ => Or.inl trivial
  iexact HO

/-- The body, from what the region gives it to what the region asks of it. -/
theorem sound_body (c : Dev nD) : bodyPre m ρ c ⊢ run c (body (F := F)) (fun _ => bodyPost m ρ c) := by
  unfold bodyPre start
  iintro ⟨⟨⟨%K, Hg⟩, Hc, Hl⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  iapply (run_body m ρ K c g1 (fun _ => bodyPost m ρ c))
  isplitl
  · isplitl [Hg]; · iexact Hg
    isplitl [Hc]; · iexact Hc
    isplitl [Hl]; · iexact Hl
    isplitl [Ho]; · iapply (owesAt_pre m ρ c); iexact Ho
    isplitl [Hx]; · unfold xAt; iexact Hx
    unfold oAt; iexact Hout
  iintro ⟨Hd, HO, Hx, Hout⟩
  unfold bodyPost
  isplitl [Hd]; · iexact Hd
  isplitl [HO]; · iapply (owesAt_post m ρ c); iexact HO
  isplitl [Hx]
  · iexists _; isplitr; · (ipureintro; rfl)
    unfold xAt; iexact Hx
  iexists _; isplitr; · (ipureintro; rfl)
  unfold oAt; iexact Hout

set_option maxRecDepth 100000 in
/-- The region's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) oM (Memref.isWhole_whole _) cc0_scratch0 cc0_scratch1 cc0_scratch2 cc0_scratch3) (fun _ => bodyPost m ρ c)
  rw [body_eq]
  exact sound_body m ρ c

/-! ## Semaphores, records and tokens at launch -/

theorem ownSemFacts : Pipeline.OwnSemFacts cfg0.spec osem where
  isScoped k := by revert k; decide +kernel
  inj := osem_inj
  disj k w s := by revert k w s; decide +kernel

theorem share_eq (c : Dev nD) (w : Fin cfg0.W) : (dats m ρ 0 c).share w = fullShare := by unfold Dat.share; split <;> rfl

def meshCells : Finset (GSem nD τ sig) := Finset.univ.map ⟨kcell, kcell_inj⟩

/-- The duties: of each device's barrier four, of its other semaphores one each. -/
abbrev Tk : Type := D ⊕ (Fin 4 × I)
def tokOf (ct : Dev nD × Tk) : GSem nD τ sig × ℕ × D := match ct.2 with
  | .inl k => (barC ct.1, 0, k)
  | .inr k => (kcell (ct.1, some k), 0, 0)
theorem tokOf_inj : Function.Injective tokOf := by
  rintro ⟨c, t⟩ ⟨c', t'⟩ h
  match t, t', h with
  | .inl k, .inl k', h =>
    have h1 := kcell_inj (congrArg Prod.fst h : barC c = barC c')
    have h2 : k = k' := congrArg (fun x : GSem nD τ sig × ℕ × D => x.2.2) h
    injection h1 with h1 _
    change c = c' at h1
    rw [h1, h2]
  | .inr k, .inr k', h =>
    have h1 := kcell_inj (congrArg Prod.fst h : kcell (c, some k) = kcell (c', some k'))
    injection h1 with h1 h2
    injection h2 with h2
    change c = c' at h1
    change k = k' at h2
    rw [h1, h2]
  | .inl k, .inr k', h =>
    have h1 := kcell_inj (congrArg Prod.fst h : barC c = kcell (c', some k'))
    injection h1 with _ h2
    cases h2
  | .inr k, .inl k', h =>
    have h1 := kcell_inj (congrArg Prod.fst h : kcell (c, some k) = barC c')
    injection h1 with _ h2
    cases h2
def meshToks : Finset (GSem nD τ sig × ℕ × D) := Finset.univ.map ⟨tokOf, tokOf_inj⟩

def u₀ : UU :=
  (initOf (Pipeline.cells cfgs cellOf_inj) (Pipeline.launchToks cfgs cellOf_inj), initOf meshCells meshToks)

/-- The tokens of device `c`'s own semaphores, as minted. -/
def toks (c : Dev nD) : sProp 𝕄 :=
  iprop((bigSep Finset.univ fun k : D => dutyTok ER (barC c) 0 k) ∗ bigSep Finset.univ fun k : Fin 4 × I => dutyTok ER (kcell (c, some k)) 0 0)

/-- What the launch deals device `c` first, and what it holds once records are allocated and tokens dealt. -/
def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ toks c)
def G' (c : Dev nD) : sProp 𝕄 := iprop(∃ K, ghost m ρ K c)

omit [FloatOps F] in
theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Kd => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum]; rfl
  iintro HX
  imod (Rounds.fund ER (Rd m ρ) meshCells meshToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The launch's own semaphores and its one unscoped semaphore are all of a device's. -/
theorem sems_eq (c : Dev nD) : (done c : sProp 𝕄)
    = iprop(unscopedSems0 c ∗ Pipeline.ownSems0 (Ix := Unit) (Name := ℕ) (U := UU) (Lvl := ℕ) (Val := Elt F) (τ := τ) osem c) := by
  unfold done
  rw [bigSep_opt, unscopedSems0_eq]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  unfold done
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt -/

/-- From a device and a signal to the peer it goes to and the duty it pays there; and back. -/
def sigE : Dev nD × Fin 4 ≃ Dev nD × Fin 4 where
  toFun p := (pr p.1 p.2, rv p.2)
  invFun p := (pr p.1 p.2, rv p.2)
  left_inv p := Prod.ext (pr_pr p.1 p.2) (rv_rv p.2)
  right_inv p := Prod.ext (pr_pr p.1 p.2) (rv_rv p.2)
/-- From a device and an index to the device it copies to at that index; and back. -/
def zE : Dev nD × I ≃ Dev nD × I where
  toFun p := (zp p.1 p.2.2, p.2)
  invFun p := (zp p.1 p.2.2.rev, p.2)
  left_inv p := Prod.ext (zp_zp p.1 p.2.2) rfl
  right_inv p := Prod.ext (zp_zp' p.1 p.2.2) rfl
/-- The same for the partner. -/
def xE : Dev nD × I ≃ Dev nD × I where
  toFun p := (xp p.1, p.2)
  invFun p := (xp p.1, p.2)
  left_inv p := Prod.ext (xp_xp p.1) rfl
  right_inv p := Prod.ext (xp_xp p.1) rfl

omit [FloatOps F] in
theorem deal {J : Type} [Fintype J] (e : Dev nD × J ≃ Dev nD × J) (Φ : Dev nD × J → sProp 𝕄) :
    (bigSep Finset.univ fun c : Dev nD => bigSep Finset.univ fun j : J => Φ (c, j)) = bigSep Finset.univ fun c : Dev nD => bigSep Finset.univ fun j : J => Φ (e (c, j)) := by
  rw [← bigSep_univ_prod, bigSep_univ_equiv e, bigSep_univ_prod]

omit [FloatOps F] in
/-- Every token goes to the device that pays its duty. -/
theorem toks_around : (bigSep Finset.univ fun c : Dev nD => (toks c : sProp 𝕄)) ⊢ bigSep Finset.univ fun c : Dev nD => payToks c := by
  have h (c : Dev nD) : (toks c : sProp 𝕄) = iprop((bigSep Finset.univ fun k : D => dutyTok ER (barC c) 0 k)
      ∗ (bigSep Finset.univ fun i : I => dutyTok ER (zsC c i) 0 0) ∗ (bigSep Finset.univ fun i : I => dutyTok ER (zrC c i) 0 0)
      ∗ (bigSep Finset.univ fun i : I => dutyTok ER (xsC c i) 0 0) ∗ (bigSep Finset.univ fun i : I => dutyTok ER (xrC c i) 0 0)) := by
    unfold toks
    refine congrArg _ ?_
    rw [bigSep_univ_prod (fun k : Fin 4 × I => dutyTok ER (kcell (c, some k)) 0 0)]
    exact bigSep_fin4 _
  rw [bigSep_congr fun c _ => h c]
  unfold payToks
  simp only [bigSep_sep']
  rw [deal sigE (fun p => (dutyTok ER (barC p.1) 0 p.2 : sProp 𝕄)), deal zE (fun p => (dutyTok ER (zrC p.1 p.2) 0 0 : sProp 𝕄)),
    deal xE (fun p => (dutyTok ER (xrC p.1 p.2) 0 0 : sProp 𝕄))]
  exact BI.Entails.refl _

omit [FloatOps F] in
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, HR⟩, Htok⟩
  ihave HK := (BI.bigSep_exists_pi Finset.univ (fun (ck : Dev nD × Kd) (κ : ℕ) => (cellInv ER (Rd m ρ) κ (kcell ck) : sProp 𝕄))) $$ HI
  icases HK with ⟨%K, HI⟩
  ihave Htk := (toks_around (F := F)) $$ Htok
  iapply (bigSep_with_persistent (R := recs m ρ K)
    (Φ := fun c : Dev nD => iprop((bigSep Finset.univ fun k : Kd => atPos ER (kcell (c, k)) 0 ∅ 0) ∗ payToks c)) fun c _ => by
      unfold G' ghost
      iintro ⟨H, Hat, Ht⟩
      iexists K
      isplitl [H]; · iexact H
      isplitl [Hat] <;> iassumption)
  rw [bigSep_sep']
  isplitl [HI HR]
  · unfold recs; rw [bigSep_sep']
    isplitl [HI] <;> iassumption
  isplitl [Hat] <;> iassumption

omit [FloatOps F] in
/-- The step all the devices take together before the body. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owing_at {J : Type} (f : J → CellTallies nD τ sig Unit) (g : GSem nD τ sig) : ∀ l : List J, owing f l g () = (l.map fun j => f j g ()).sum
  | [] => rfl
  | j :: l => by
    rw [List.map_cons, List.sum_cons, ← owing_at f g l]
    show ((j :: l).map f).sum g () = _
    rw [List.map_cons, List.sum_cons, Pi.add_apply, Finsupp.add_apply]

theorem owing_order (f : I → CellTallies nD τ sig Unit) (g : GSem nD τ sig) : owing f order g () = ∑ i : I, f i g () := by
  rw [owing_at, ← List.sum_toFinset _ (by decide), show order.toFinset = Finset.univ from by decide]
theorem owing_four (f : Fin 4 → CellTallies nD τ sig Unit) (g : GSem nD τ sig) : owing f [0, 1, 2, 3] g () = ∑ k : Fin 4, f k g () := by
  rw [owing_at, ← List.sum_toFinset _ (by decide), show ([0, 1, 2, 3] : List (Fin 4)).toFinset = Finset.univ from by decide]

theorem tally_at (a b : Dev nD × Kd) (n : ℕ) : (tallyAt (kcell a) () n : CellTallies nD τ sig Unit) (kcell b) () = if a = b then n else 0 := by
  rw [tallyAt_apply]
  by_cases h : a = b
  · subst h; rw [if_pos ⟨rfl, rfl⟩, if_pos rfl]
  · rw [if_neg (fun h' => h (kcell_inj h'.1).symm), if_neg h]

/-- What all the devices owe at a semaphore: a unit for each of its barrier's duties, or a copy's credit. -/
theorem owed_all (b : Dev nD × Kd) : ∑ d : Dev nD, O₀ d (kcell b) ()
    = (∑ p : Dev nD × Fin 4, if ((p.1, none) : Dev nD × Kd) = b then 1 else 0)
      + ((∑ p : Dev nD × I, if ((p.1, some (1, p.2)) : Dev nD × Kd) = b then N else 0)
        + ∑ p : Dev nD × I, if ((p.1, some (3, p.2)) : Dev nD × Kd) = b then N else 0) := by
  have h (d : Dev nD) : O₀ d (kcell b) () = (∑ k : Fin 4, if (((sigE (d, k)).1, none) : Dev nD × Kd) = b then 1 else 0)
      + ((∑ i : I, if (((zE (d, i)).1, some (1, (zE (d, i)).2)) : Dev nD × Kd) = b then N else 0)
        + ∑ i : I, if (((xE (d, i)).1, some (3, (xE (d, i)).2)) : Dev nD × Kd) = b then N else 0) := by
    unfold O₀
    rw [Pi.add_apply, Finsupp.add_apply, Pi.add_apply, Finsupp.add_apply, owing_four, owing_order, owing_order]
    refine congrArg₂ _ (Finset.sum_congr rfl fun k _ => tally_at _ b 1) (congrArg₂ _ (Finset.sum_congr rfl fun i _ => tally_at _ b N) (Finset.sum_congr rfl fun i _ => tally_at _ b N))
  rw [Finset.sum_congr rfl fun d _ => h d, Finset.sum_add_distrib, Finset.sum_add_distrib,
    ← Fintype.sum_prod_type', ← Fintype.sum_prod_type', ← Fintype.sum_prod_type']
  exact congrArg₂ _ (Equiv.sum_comp sigE fun p => if ((p.1, none) : Dev nD × Kd) = b then 1 else 0)
    (congrArg₂ _ (Equiv.sum_comp zE fun p => if ((p.1, some (1, p.2)) : Dev nD × Kd) = b then N else 0)
      (Equiv.sum_comp xE fun p => if ((p.1, some (3, p.2)) : Dev nD × Kd) = b then N else 0))

theorem sum_zero {J : Type} [Fintype J] (f : J → Dev nD × Kd) (b : Dev nD × Kd) (n : ℕ) (h : ∀ j, f j ≠ b) : (∑ j, if f j = b then n else 0) = 0 :=
  Finset.sum_eq_zero fun j _ => if_neg (h j)
theorem sum_one {J : Type} [Fintype J] [DecidableEq J] (f : J → Dev nD × Kd) (hf : Function.Injective f) (j₀ : J) (n : ℕ) : (∑ j, if f j = f j₀ then n else 0) = n := by
  rw [Finset.sum_congr rfl fun j _ => if_congr (hf.eq_iff (a := j) (b := j₀)) rfl rfl, Finset.sum_ite_eq' Finset.univ j₀ fun _ => n, if_pos (Finset.mem_univ _)]

theorem owed_bar (c : Dev nD) : ∑ d : Dev nD, O₀ d (barC c) () = 4 := by
  rw [owed_all (c, none), sum_zero (fun p : Dev nD × I => (p.1, some (1, p.2))) _ N (fun p h => by injection h with _ h; cases h),
    sum_zero (fun p : Dev nD × I => (p.1, some (3, p.2))) _ N (fun p h => by injection h with _ h; cases h), Fintype.sum_prod_type_right]
  rw [Finset.sum_congr rfl fun k _ => sum_one (fun d : Dev nD => ((d, none) : Dev nD × Kd)) (fun a b h => congrArg Prod.fst h) c 1]
  rfl

theorem owed_zr (c : Dev nD) (i : I) : ∑ d : Dev nD, O₀ d (zrC c i) () = N := by
  rw [owed_all (c, some (1, i)), sum_zero (fun p : Dev nD × Fin 4 => (p.1, none)) _ 1 (fun p h => by injection h with _ h; cases h),
    sum_zero (fun p : Dev nD × I => (p.1, some (3, p.2))) _ N (fun p h => by injection h with _ h; injection h with h; injection h with h _; exact absurd h (by decide)),
    sum_one (fun p : Dev nD × I => ((p.1, some (1, p.2)) : Dev nD × Kd)) (fun a b h => by
      injection h with h1 h; injection h with h; injection h with _ h; exact Prod.ext h1 h) (c, i) N]
  rw [Nat.zero_add, Nat.add_zero]

theorem owed_xr (c : Dev nD) (i : I) : ∑ d : Dev nD, O₀ d (xrC c i) () = N := by
  rw [owed_all (c, some (3, i)), sum_zero (fun p : Dev nD × Fin 4 => (p.1, none)) _ 1 (fun p h => by injection h with _ h; cases h),
    sum_zero (fun p : Dev nD × I => (p.1, some (1, p.2))) _ N (fun p h => by injection h with _ h; injection h with h; injection h with h _; exact absurd h (by decide)),
    sum_one (fun p : Dev nD × I => ((p.1, some (3, p.2)) : Dev nD × Kd)) (fun a b h => by
      injection h with h1 h; injection h with h; injection h with _ h; exact Prod.ext h1 h) (c, i) N]
  rw [Nat.zero_add, Nat.zero_add]

theorem launch_at (b : Dev nD × Kd) (n : ℕ) (h : ∑ d : Dev nD, O₀ d (kcell b) () = n) :
    tallyOn (kcell b) (launchCredit (Pipeline.owing O₀) 0 (kcell b)) = (tallyAt (kcell b) () n : CellTallies nD τ sig Unit) := by
  unfold tallyAt; refine congrArg _ (Finsupp.ext fun u => ?_); cases u
  rw [Pipeline.launchCredit_owing, Finsupp.single_eq_same, h]

omit [FloatOps F] in
theorem creds_intro (c : Dev nD) : (Pipeline.launchCred O₀ c : sProp 𝕄) ⊢ creds c := by
  have h : (Pipeline.launchCred O₀ c : sProp 𝕄) ⊢ bigSep Finset.univ fun k : Kd => cred (tallyOn (kcell (c, k)) (launchCredit (Pipeline.owing O₀) 0 (kcell (c, k)))) := by
    unfold Pipeline.launchCred
    refine (bigSep_subset (Finset.subset_univ (Finset.univ.map ⟨csem, csem_inj⟩))).trans ?_
    rw [bigSep_map]
    exact BI.Entails.refl _
  suffices h' : (bigSep Finset.univ fun k : Kd => (cred (tallyOn (kcell (c, k)) (launchCredit (Pipeline.owing O₀) 0 (kcell (c, k)))) : sProp 𝕄)) ⊢ creds c from BI.Entails.trans h h'
  rw [bigSep_Kd, launch_at (c, none) 4 (owed_bar c), bigSep_congr fun i _ => congrArg cred (launch_at (c, some (1, i)) N (owed_zr c i)),
    bigSep_congr fun i _ => congrArg cred (launch_at (c, some (3, i)) N (owed_xr c i))]
  unfold creds
  iintro ⟨H, -, Hz, -, Hx⟩
  isplitl [H]; · iexact H
  isplitl [Hz] <;> iassumption

/-! ### The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, sems_eq]
  iintro ⟨Hu, Ho⟩
  isplitl [Hu]; · iexact Hu
  isplitl [Ho]; · iexact Ho
  iempintro

theorem stage_level (w : Fin cfg0.W) (s : Fin (cfg0.win w).nbuf) (c : Dev nD) : lv ((c : Thread nD τ), .dma ((cfg0.win w).sem s)) () ≤ 0 := by
  unfold lv
  rw [Function.extend_apply']
  rintro ⟨k, hk⟩
  match k, hk with
  | none, hk => cases hk
  | some k, hk => exact ownSemFacts.disj k w s hk

theorem waits (c : Dev nD) : (levAts L lv : sProp 𝕄) ⊢ Pipeline.cellsWaits cfgs (dats m ρ) () 0 c :=
  Pipeline.cellsWaits_intro cfgs (dats m ρ) () 0 c fun w s t =>
    mayWait c _ 0 (stage_level w s c) _ fun g u hg => by
      rcases t with ⟨_ | _, ht⟩
      · exact O₀_pos hg
      · exact absurd hg (Nat.lt_irrefl 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values: every weakly fair execution of the thirty-two
    devices terminates, every device's arrays hold what `finalA` says, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.A2A

end
-- ==== Proof.Value.lean ====
/-
# What the arrays hold, as blocks of the whole array

Every device's block of `x` is 512 rows of the whole array, its third coordinate saying which. Then its part of the
result, put together from the blocks of four devices, is 512 columns of the same whole array.
-/
module

public import proofs.«01_k».proof.Proof.Launch
public import Idealize.ShloMosaic.Lib.Layout
public import Idealize.ShloMosaic.Lib.Pipeline.ValueKit.Geometry

@[expose] public section

noncomputable section

namespace Cert.A2A

open Cert.KernelIdeal Cert.KernelIdeal.Gen
open Idealize.ShloMosaic
open Idealize.ShloMosaic.TcCoe
open Idealize.SL.Sem

variable {F : FTy → Type} [FloatOps F]

/-- The whole array's shape, and the block of it that a device holds before (rows) and after (columns). -/
abbrev SW : Shape := ⟨2, ![2048, 2048]⟩
abbrev rowsOf (c : Dev nD) (v : SW.Idx → Elt F .f32) : S512x2048.Idx → Elt F .f32 :=
  Layout.blockN ⟨2, ![512, 2048]⟩ ⟨2, ![2048, 2048]⟩ (Layout.meshBlock [2, 4, 4] ![[2], []] c) v
abbrev colsOf (c : Dev nD) (v : SW.Idx → Elt F .f32) : S2048x512.Idx → Elt F .f32 :=
  Layout.blockN ⟨2, ![2048, 512]⟩ ⟨2, ![2048, 2048]⟩ (Layout.meshBlock [2, 4, 4] ![[], [2]] c) v

/-- The block index along the third axis is the device's third coordinate. -/
theorem lin_z (c : Dev nD) : Layout.meshLin [2, 4, 4] c.val [2] = c.val % 4 := by revert c; decide +kernel

/-- An index of a block of a two-dimensional array, by coordinates: the block's offset plus the index. -/
theorem block_at {dS dT : Fin 2 → ℕ} {n : Fin 2 → ℕ} (h : Layout.TilesN ⟨2, dS⟩ ⟨2, dT⟩ n) (b : (a : Fin 2) → Fin (n a))
    (i : (⟨2, dS⟩ : Shape).Idx) (a : Fin 2) : (h.idx b i a).val = (b a).val * dS a + (i a).val := rfl

omit [FloatOps F] in
/-- Row `r`, column `k` of device `c`'s rows is row `512 z + r`, column `k` of the whole array, `z` its third coordinate. -/
theorem rowsOf_at (c : Dev nD) (v : SW.Idx → Elt F .f32) (e : S512x2048.Idx) (w : SW.Idx)
    (h0 : (w 0).val = 512 * (c.val % 4) + (e 0).val) (h1 : (w 1).val = (e 1).val) : rowsOf c v e = v w := by
  unfold rowsOf
  rw [Layout.blockN_apply]
  refine congrArg v (Shape.idx_ext₂ ?_ ?_)
  · rw [block_at, h0]
    refine congrArg (· + (e 0).val) ?_
    show Layout.meshLin [2, 4, 4] c.val [2] * 512 = _
    rw [lin_z, Nat.mul_comm]
  · rw [block_at, h1]
    refine (congrArg (· + (e 1).val) ?_).trans (Nat.zero_add _)
    show Layout.meshLin [2, 4, 4] c.val [] * 2048 = 0
    exact Nat.zero_mul _

omit [FloatOps F] in
/-- Row `r`, column `k` of device `c`'s columns is row `r`, column `512 z + k` of the whole array. -/
theorem colsOf_at (c : Dev nD) (v : SW.Idx → Elt F .f32) (j : S2048x512.Idx) (w : SW.Idx)
    (h0 : (w 0).val = (j 0).val) (h1 : (w 1).val = 512 * (c.val % 4) + (j 1).val) : colsOf c v j = v w := by
  unfold colsOf
  rw [Layout.blockN_apply]
  refine congrArg v (Shape.idx_ext₂ ?_ ?_)
  · rw [block_at, h0]
    refine (congrArg (· + (j 0).val) ?_).trans (Nat.zero_add _)
    show Layout.meshLin [2, 4, 4] c.val [] * 2048 = 0
    exact Nat.zero_mul _
  · rw [block_at, h1]
    refine congrArg (· + (j 1).val) ?_
    show Layout.meshLin [2, 4, 4] c.val [2] * 512 = _
    rw [lin_z, Nat.mul_comm]

/-- The third coordinate of the device a row comes from is the row's block. -/
theorem srcDev_z (c : Dev nD) (n : ℕ) : (srcDev c n).val % 4 = n / 512 % 4 := by
  unfold srcDev
  split
  · exact (Eq.symm ‹_›)
  · show (16 * (n % 512 / 256) + 4 * (c.val / 4 % 4) + n / 512 % 4) % 4 = n / 512 % 4
    omega

omit [FloatOps F] in
/-- THE EQUATION: from blocks of `x` that are rows of one whole array, device `c`'s part of the result is its columns. -/
theorem outC_cols (v : SW.Idx → Elt F .f32) (c : Dev nD) : (outC (F := F) (fun s => rowsOf s v) c : S2048x512.Idx → Elt F .f32) = colsOf c v := by
  funext j
  have l0 : (j 0).val < 2048 := (j 0).isLt
  have l1 : (j 1).val < 512 := (j 1).isLt
  have hz : c.val % 4 < 4 := Nat.mod_lt _ (by decide)
  have hw1 : 512 * (c.val % 4) + (j 1).val < 2048 := by omega
  let w : SW.Idx := Shape.pair (d := ![2048, 2048]) ⟨(j 0).val, l0⟩ ⟨512 * (c.val % 4) + (j 1).val, hw1⟩
  rw [colsOf_at c v j w rfl rfl]
  unfold outC
  refine rowsOf_at _ v _ w ?_ ?_
  · rw [srcDev_z]
    show (j 0).val = 512 * ((j 0).val / 512 % 4) + (j 0).val % 512 % 512
    omega
  · show 512 * (c.val % 4) + (j 1).val = (512 * (c.val % 4) + (j 1).val) % 2048
    omega

variable (m : (ℓ : Loc nD τ sig) → Buf (Elt F) ℓ) (ρ : Dev nD → PrngReg)

/-- The staged block is the argument. -/
theorem xstg_eq (c : Dev nD) : xstg m ρ c = m ((c : Thread nD τ).loc main_arg0) := by
  funext i
  unfold xstg s₀
  rw [View.read_apply, cast_eq]
  refine congrArg (m ((c : Thread nD τ).loc main_arg0)) ?_
  exact Shape.idx_ext₂ (by blk_simp; exact Nat.zero_add _) (by blk_simp; exact Nat.zero_add _)

/-- At the end the result's array holds the computed result. -/
theorem finalA_out (c : Dev nD) : finalA m ρ c (1 : Fin 2) = outR m ρ c :=
  (dats m ρ 0 c).arrAt_eq_of_after_last (1 : Fin 2) t₀ (by decide +kernel) (outR m ρ c) fun j => rfl

/-- The run, in the terms of the claims: where every device's argument is its rows of one array `v`, every device's
    result ends at its columns of `v`, its argument as it was. -/
theorem run_value (v : SW.Idx → Elt F .f32) (hv : ∀ c : Dev nD, m ((c.tc : Thread nD τ).loc main_arg0) = rowsOf c v) :
    θ_run defs (onTc (τ := τ) (main (F := F))) ⟨m, fun _ => 0, ρ⟩ (fun r => ∀ c : Dev nD,
      r.2.mem ((c.tc : Thread nD τ).loc main_v1) = colsOf c v
      ∧ r.2.mem ((c.tc : Thread nD τ).loc main_arg0) = m ((c.tc : Thread nD τ).loc main_arg0)) := by
  refine (θ_run defs _ _).mono (fun r h c => ⟨?_, ?_⟩) (run_main m ρ)
  · refine (h.1 c (1 : Fin 2)).trans ((finalA_out m ρ c).trans ?_)
    unfold outR
    rw [show xstg m ρ = fun s => rowsOf s v from funext fun s => (xstg_eq m ρ s).trans (hv s)]
    exact outC_cols v c
  · exact (h.1 c (0 : Fin 2)).trans (finalA_x m ρ c)

/-- The run with the values dropped: every device's argument is as it was, every counter is at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun r h => ⟨fun c => (h.1 c (0 : Fin 2)).trans (finalA_x m ρ c), h.2⟩) (run_main m ρ)

end Cert.A2A

end
-- ==== Proof.Same.lean ====
/-
# The two programs are one

No operation was rewritten, so the kernel and the ideal kernel have the same text: their bodies, hence their tables of
bodies, are equal at any float values, and the run of the one is the run of the other.
-/
module

public import proofs.«01_k».proof.Proof.Gen.Kernel
public import proofs.«01_k».proof.Proof.Value

@[expose] public section

noncomputable section

namespace Cert.A2A

open Idealize.ShloMosaic Idealize.SL.Sem

variable {F : FTy → Type} [FloatOps F]

set_option maxRecDepth 100000 in
/-- The kernel's printed body is the chain too. -/
theorem kernel_body : Cert.Kernel.cc0_body (F := F) (Cert.Kernel.win0_0.stage 0) (Cert.Kernel.Facts₀.hstage0_0 0)
    (Cert.Kernel.win0_1.stage 0) (Cert.Kernel.Facts₀.hstage0_1 0)
    Cert.Kernel.cc0_scratch0 Cert.Kernel.cc0_scratch1 Cert.Kernel.cc0_scratch2 Cert.Kernel.cc0_scratch3 = body (F := F) := rfl

set_option maxRecDepth 100000 in
/-- The two tables of bodies are equal: one label, on the TensorCore, the same body. -/
theorem bodies_eq : Cert.Kernel.defs₀ (F := F) = Cert.KernelIdeal.defs₀ (F := F) := by
  funext pr ℓ a
  rcases pr with _ | _ | _
  · rcases ℓ with ⟨_ | ℓ, h⟩
    · obtain ⟨t, s⟩ := a
      exact (kernel_body (F := F)).trans (body_eq (F := F)).symm
    · exact absurd h (by show ¬ _ < 1; omega)
  · rfl
  · rfl

/-- So are the tables with the region's labels. -/
theorem defs_eq : Cert.Kernel.defs (F := F) = Cert.KernelIdeal.defs (F := F) :=
  congrArg (Pipeline.defs Cert.KernelIdeal.pcfgs) bodies_eq

/-- The kernel's run: every device's argument is as it was, every counter is at zero. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0) := by
  rw [defs_eq]
  exact run_frame m ρ

end Cert.A2A

end
-- ==== Proof.Ref.lean ====
/-
# The reference

The reference returns its argument: it runs no operation, and its memory ends as it began.
-/
module

public import proofs.«01_k».proof.Proof.Gen.ReferenceIdeal
public import Idealize.ShloMosaic.Lib.StableHlo.Run
public import Idealize.ShloMosaic.Lib.Quiescent

@[expose] public section

noncomputable section

namespace Cert.A2A.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's one array ends as it began, and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.A2A.Ref

end
-- ==== Proof.lean ====
/-
# The claims

The run of the kernel is written once, over any float values (Proof/Launch.lean): at bits it gives the kernel's frame, over
the extended reals the ideal kernel's frame and what it computes. The reference returns its argument (Proof/Ref.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Same
public import proofs.«01_k».proof.Proof.Ref

@[expose] public section

noncomputable section

namespace Cert.Proof

open Idealize.ShloMosaic Idealize.SL.Sem

/-- The kernel terminates without fault, its argument unchanged, every counter at zero: its text is the ideal
    program's, so the run at bits is its own (Proof/Same.lean). -/
theorem frame_kernel : Cert.quiescent_Kernel := fun m ρ _ => Cert.A2A.kernel_frame (F := Bits) m ρ

/-- The same of the ideal kernel, over the extended reals. -/
theorem frame_ideal : Cert.quiescent_KernelIdeal := fun m ρ _ => Cert.A2A.run_frame (F := Ideal) m ρ

/-- The same of the reference. -/
theorem frame_ref : Cert.quiescent_ReferenceIdeal := fun m ρ _ => Cert.A2A.Ref.run_ref (F := Ideal) m ρ

/-- No operation was rewritten. -/
theorem preserves : Cert.preserves_Kernel_KernelIdeal := trivial

/-- Every device that starts with its rows of the reference's array ends with its columns of it, which the reference returns. -/
theorem algebraic : Cert.algebraic_KernelIdeal_ReferenceIdeal := fun m ρ m' ρ' _ hag =>
  ⟨_, Cert.A2A.run_value (F := Ideal) m ρ _ hag,
    (θ_run Cert.ReferenceIdeal.defs _ _).mono (fun _ h => ⟨h.1 0, h.1 0⟩) (Cert.A2A.Ref.run_ref (F := Ideal) m' ρ')⟩

/-- The five claims together. -/
theorem claim : Cert.Claim := ⟨Cert.Kernel.Gen.facts, Cert.KernelIdeal.Gen.facts, Cert.ReferenceIdeal.Gen.facts,
  frame_kernel, frame_ideal, frame_ref, preserves, algebraic⟩

end Cert.Proof

end
